-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_decided [hKernelIdeal : Cert.KernelIdeal.Facts] [hReferenceIdeal : Cert.ReferenceIdeal.Facts] [hOn_decided : Cert.On_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![16, 512]⟩ ⟨2, ![512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2]⟩ ⟨2, ![512, 64]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 1024]⟩ ⟨3, ![64, 512, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 1024, 512]⟩ ⟨3, ![64, 1024, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16, 512]⟩ : Shape).Idx, (Layout.block ⟨2, ![16, 512]⟩ ⟨2, ![512, 512]⟩ 0 32 c ((Cert.On_decided.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![16, 512]⟩ : Shape).Idx → _) i = 1#1 → r.2.mem ((c.tc : Thread Cert.KernelIdeal.nD Cert.KernelIdeal.τ).loc Cert.KernelIdeal.main_v4) i = (Layout.block ⟨2, ![16, 512]⟩ ⟨2, ![512, 512]⟩ 0 32 c v0 : (⟨2, ![16, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_decided.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v27) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_decided : Cert.On_decided.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_decided (hKernelIdeal := hKernelIdeal) (hReferenceIdeal := hReferenceIdeal) (hOn_decided := hOn_decided)
-- ==== On_decided.lean ====
abbrev S512x512 : Shape := ⟨2, ![512, 512]⟩
abbrev S512x64 : Shape := ⟨2, ![512, 64]⟩
abbrev S64x512x1024 : Shape := ⟨3, ![64, 512, 1024]⟩
abbrev S64x1024x512 : Shape := ⟨3, ![64, 1024, 512]⟩
abbrev S512x3 : Shape := ⟨2, ![512, 3]⟩
abbrev S512x1 : Shape := ⟨2, ![512, 1]⟩
abbrev S512 : Shape := ⟨1, ![512]⟩
abbrev S_ : Shape := ⟨0, ![]⟩

class Facts : Prop where
  sliceFits_S512x64_S512x3 : S512x64.Slices (fun _ => 0) S512x3
  slices_S512x3_S512x1_0_1 : S512x3.Slices ![0, 1] S512x1
  shapeCasts_S512x1_S512 : S512x1.ShapeCasts S512
  slices_S512x3_S512x1_0_2 : S512x3.Slices ![0, 2] S512x1
  slices_S512x3_S512x1_0_0 : S512x3.Slices ![0, 0] S512x1
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  dot_S512x512_S512x64_S512x64_1_0_0_1_n_n_wf : DotDims.WF S512x512 S512x64 S512x64 [1] [0] [0] [1] [] []

variable [Facts]

def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def fn {F : FTy → Type} [FloatOps F] (main_arg0 : FVec F S512x512 .f32) (main_arg1 : FVec F S512x64 .f32) (main_arg2 : FVec F S64x512x1024 .f32) (main_arg3 : FVec F S64x1024x512 .f32) : IVec S512x512 1 :=
  let main_v0 : FVec F S512x64 .f32 := (fun l r => Host.dotGeneral dot_S512x512_S512x64_S512x64_1_0_0_1_n_n none l r) main_arg0 main_arg1
  let main_values : FVec F S512x3 .f32 := (fun x => (Host.topK S512x3 1 (FloatOps.cmpfTotal .gt) x sliceFits_S512x64_S512x3).1) main_v0
  let main_indices : IVec S512x3 32 := (fun x => (Host.topK S512x3 1 (FloatOps.cmpfTotal .gt) x sliceFits_S512x64_S512x3).2) main_v0
  let main_v1 : FVec F S512x1 .f32 := (extractStridedSlice S512x1 ![0, 1] · slices_S512x3_S512x1_0_1) main_values
  let main_v2 : FVec F S512 .f32 := shapeCast S512 main_v1 shapeCasts_S512x1_S512
  let main_v3 : FVec F S512x1 .f32 := (extractStridedSlice S512x1 ![0, 2] · slices_S512x3_S512x1_0_2) main_values
  let main_v4 : FVec F S512 .f32 := shapeCast S512 main_v3 shapeCasts_S512x1_S512
  let main_v5 : IVec S512 1 := cmpf .ogt main_v2 main_v4
  let main_v6 : FVec F S512x1 .f32 := (extractStridedSlice S512x1 ![0, 0] · slices_S512x3_S512x1_0_0) main_values
  let main_v7 : FVec F S512 .f32 := shapeCast S512 main_v6 shapeCasts_S512x1_S512
  let main_cst : FVec F S_ .f32 := constant S_ .f32 0x7F800000#32
  let main_v8 : FVec F S512 .f32 := broadcastInDim S512 ![] bcast_S_S512 main_cst
  let main_v9 : IVec S512 1 := cmpf .olt main_v7 main_v8
  let main_v10 : IVec S512 1 := andi main_v5 main_v9
  let main_v11 : IVec S512x1 1 := broadcastInDim S512x1 ![0] bcast_S512_S512x1_0 main_v10
  let main_v12 : IVec S512x512 1 := broadcastInDim S512x512 ![0, 1] bcast_S512x1_S512x512_0_1 main_v11
  main_v12
-- ==== Kernel.lean ====
abbrev S16x512 : Shape := ⟨2, ![16, 512]⟩
abbrev S512x2 : Shape := ⟨2, ![512, 2]⟩
abbrev S2x512x1024 : Shape := ⟨3, ![2, 512, 1024]⟩
abbrev S2x1024x512 : Shape := ⟨3, ![2, 1024, 512]⟩
abbrev S2x512 : Shape := ⟨2, ![2, 512]⟩
abbrev S32x16x512 : Shape := ⟨3, ![32, 16, 512]⟩
abbrev S32x2x512 : Shape := ⟨3, ![32, 2, 512]⟩
abbrev S32 : Shape := ⟨1, ![32]⟩
abbrev S_ : Shape := ⟨0, ![]⟩
abbrev S1 : Shape := ⟨1, ![1]⟩
abbrev S1x2x512 : Shape := ⟨3, ![1, 2, 512]⟩
abbrev S1x16x512 : Shape := ⟨3, ![1, 16, 512]⟩
abbrev S64x512 : Shape := ⟨2, ![64, 512]⟩
abbrev S8x16x512 : Shape := ⟨3, ![8, 16, 512]⟩
abbrev S128x512 : Shape := ⟨2, ![128, 512]⟩
abbrev S128x64 : Shape := ⟨2, ![128, 64]⟩
abbrev S128 : Shape := ⟨1, ![128]⟩
abbrev S128x1 : Shape := ⟨2, ![128, 1]⟩
abbrev S1x512x1024 : Shape := ⟨3, ![1, 512, 1024]⟩
abbrev S512x1024 : Shape := ⟨2, ![512, 1024]⟩
abbrev S128x1024 : Shape := ⟨2, ![128, 1024]⟩
abbrev S1x1024x512 : Shape := ⟨3, ![1, 1024, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S16x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S2x512, .f32⟩
  | .hbm, ⟨5, _⟩ => ⟨S2x512x1024, .bf16⟩
  | .hbm, ⟨6, _⟩ => ⟨S2x1024x512, .bf16⟩
  | .hbm, ⟨7, _⟩ => ⟨S16x512, .f32⟩
  | .local _ .vmem, ⟨0, _⟩ => ⟨S16x512, .f32⟩
  | .local _ .vmem, ⟨1, _⟩ => ⟨S2x512, .f32⟩
  | .local _ .vmem, ⟨2, _⟩ => ⟨S2x512x1024, .bf16⟩
  | .local _ .vmem, ⟨3, _⟩ => ⟨S2x1024x512, .bf16⟩
  | .local _ .vmem, ⟨4, _⟩ => ⟨S16x512, .f32⟩
  | .local _ .vmem, ⟨5, _⟩ => ⟨S32x16x512, .f32⟩
  | .local _ .vmem, ⟨6, _⟩ => ⟨S32x2x512, .f32⟩
  | .local _ .vmem, ⟨7, _⟩ => ⟨S32x16x512, .f32⟩
  | .local _ .vmem, ⟨8, _⟩ => ⟨S32x16x512, .f32⟩
  | _, _ => ⟨S16x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 197 → Bool
  | ⟨i, _⟩ => dmaSemScopedAt i

abbrev sig : RefSig :=
  (ofTc nBuf bufTy 1 197 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let v128 : BitVec 32 := Scalar.addi v2 c1_i32_125
  let c32_i32_126 : BitVec 32 := 32#32
  let v129 : BitVec 32 := Scalar.remsi v128 c32_i32_126
  let c1_i32_130 : BitVec 32 := 1#32
  let v130 : BitVec 32 := Scalar.muli v129 c1_i32_130
  let v131 : BitVec 32 := Scalar.addi c0_i32_131 v130
  v131.toNat
def k0_dev33 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_134 : BitVec 32 := 2#32
  let v138 : BitVec 32 := Scalar.addi v2 c2_i32_134
  let c32_i32_135 : BitVec 32 := 32#32
  let v139 : BitVec 32 := Scalar.remsi v138 c32_i32_135
  let c1_i32_139 : BitVec 32 := 1#32
  let v140 : BitVec 32 := Scalar.muli v139 c1_i32_139
  let v141 : BitVec 32 := Scalar.addi c0_i32_140 v140
  v141.toNat
def k0_dev34 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_143 : BitVec 32 := 3#32
  let v148 : BitVec 32 := Scalar.addi v2 c3_i32_143
  let c32_i32_144 : BitVec 32 := 32#32
  let v149 : BitVec 32 := Scalar.remsi v148 c32_i32_144
  let c1_i32_148 : BitVec 32 := 1#32
  let v150 : BitVec 32 := Scalar.muli v149 c1_i32_148
  let v151 : BitVec 32 := Scalar.addi c0_i32_149 v150
  v151.toNat
def k0_dev35 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_152 : BitVec 32 := 4#32
  let v158 : BitVec 32 := Scalar.addi v2 c4_i32_152
  let c32_i32_153 : BitVec 32 := 32#32
  let v159 : BitVec 32 := Scalar.remsi v158 c32_i32_153
  let c1_i32_157 : BitVec 32 := 1#32
  let v160 : BitVec 32 := Scalar.muli v159 c1_i32_157
  let v161 : BitVec 32 := Scalar.addi c0_i32_158 v160
  v161.toNat
def k0_dev36 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_161 : BitVec 32 := 5#32
  let v168 : BitVec 32 := Scalar.addi v2 c5_i32_161
  let c32_i32_162 : BitVec 32 := 32#32
  let v169 : BitVec 32 := Scalar.remsi v168 c32_i32_162
  let c1_i32_166 : BitVec 32 := 1#32
  let v170 : BitVec 32 := Scalar.muli v169 c1_i32_166
  let v171 : BitVec 32 := Scalar.addi c0_i32_167 v170
  v171.toNat
def k0_dev37 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_170 : BitVec 32 := 6#32
  let v178 : BitVec 32 := Scalar.addi v2 c6_i32_170
  let c32_i32_171 : BitVec 32 := 32#32
  let v179 : BitVec 32 := Scalar.remsi v178 c32_i32_171
  let c1_i32_175 : BitVec 32 := 1#32
  let v180 : BitVec 32 := Scalar.muli v179 c1_i32_175
  let v181 : BitVec 32 := Scalar.addi c0_i32_176 v180
  v181.toNat
def k0_dev38 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_179 : BitVec 32 := 7#32
  let v188 : BitVec 32 := Scalar.addi v2 c7_i32_179
  let c32_i32_180 : BitVec 32 := 32#32
  let v189 : BitVec 32 := Scalar.remsi v188 c32_i32_180
  let c1_i32_184 : BitVec 32 := 1#32
  let v190 : BitVec 32 := Scalar.muli v189 c1_i32_184
  let v191 : BitVec 32 := Scalar.addi c0_i32_185 v190
  v191.toNat
def k0_dev39 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_188 : BitVec 32 := 8#32
  let v198 : BitVec 32 := Scalar.addi v2 c8_i32_188
  let c32_i32_189 : BitVec 32 := 32#32
  let v199 : BitVec 32 := Scalar.remsi v198 c32_i32_189
  let c1_i32_193 : BitVec 32 := 1#32
  let v200 : BitVec 32 := Scalar.muli v199 c1_i32_193
  let v201 : BitVec 32 := Scalar.addi c0_i32_194 v200
  v201.toNat
def k0_dev40 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_197 : BitVec 32 := 9#32
  let v208 : BitVec 32 := Scalar.addi v2 c9_i32_197
  let c32_i32_198 : BitVec 32 := 32#32
  let v209 : BitVec 32 := Scalar.remsi v208 c32_i32_198
  let c1_i32_202 : BitVec 32 := 1#32
  let v210 : BitVec 32 := Scalar.muli v209 c1_i32_202
  let v211 : BitVec 32 := Scalar.addi c0_i32_203 v210
  v211.toNat
def k0_dev41 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_206 : BitVec 32 := 10#32
  let v218 : BitVec 32 := Scalar.addi v2 c10_i32_206
  let c32_i32_207 : BitVec 32 := 32#32
  let v219 : BitVec 32 := Scalar.remsi v218 c32_i32_207
  let c1_i32_211 : BitVec 32 := 1#32
  let v220 : BitVec 32 := Scalar.muli v219 c1_i32_211
  let v221 : BitVec 32 := Scalar.addi c0_i32_212 v220
  v221.toNat
def k0_dev42 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_215 : BitVec 32 := 11#32
  let v228 : BitVec 32 := Scalar.addi v2 c11_i32_215
  let c32_i32_216 : BitVec 32 := 32#32
  let v229 : BitVec 32 := Scalar.remsi v228 c32_i32_216
  let c1_i32_220 : BitVec 32 := 1#32
  let v230 : BitVec 32 := Scalar.muli v229 c1_i32_220
  let v231 : BitVec 32 := Scalar.addi c0_i32_221 v230
  v231.toNat
def k0_dev43 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_224 : BitVec 32 := 12#32
  let v238 : BitVec 32 := Scalar.addi v2 c12_i32_224
  let c32_i32_225 : BitVec 32 := 32#32
  let v239 : BitVec 32 := Scalar.remsi v238 c32_i32_225
  let c1_i32_229 : BitVec 32 := 1#32
  let v240 : BitVec 32 := Scalar.muli v239 c1_i32_229
  let v241 : BitVec 32 := Scalar.addi c0_i32_230 v240
  v241.toNat
def k0_dev44 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_233 : BitVec 32 := 13#32
  let v248 : BitVec 32 := Scalar.addi v2 c13_i32_233
  let c32_i32_234 : BitVec 32 := 32#32
  let v249 : BitVec 32 := Scalar.remsi v248 c32_i32_234
  let c1_i32_238 : BitVec 32 := 1#32
  let v250 : BitVec 32 := Scalar.muli v249 c1_i32_238
  let v251 : BitVec 32 := Scalar.addi c0_i32_239 v250
  v251.toNat
def k0_dev45 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_242 : BitVec 32 := 14#32
  let v258 : BitVec 32 := Scalar.addi v2 c14_i32_242
  let c32_i32_243 : BitVec 32 := 32#32
  let v259 : BitVec 32 := Scalar.remsi v258 c32_i32_243
  let c1_i32_247 : BitVec 32 := 1#32
  let v260 : BitVec 32 := Scalar.muli v259 c1_i32_247
  let v261 : BitVec 32 := Scalar.addi c0_i32_248 v260
  v261.toNat
def k0_dev46 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_251 : BitVec 32 := 15#32
  let v268 : BitVec 32 := Scalar.addi v2 c15_i32_251
  let c32_i32_252 : BitVec 32 := 32#32
  let v269 : BitVec 32 := Scalar.remsi v268 c32_i32_252
  let c1_i32_256 : BitVec 32 := 1#32
  let v270 : BitVec 32 := Scalar.muli v269 c1_i32_256
  let v271 : BitVec 32 := Scalar.addi c0_i32_257 v270
  v271.toNat
def k0_dev47 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_260 : BitVec 32 := 16#32
  let v278 : BitVec 32 := Scalar.addi v2 c16_i32_260
  let c32_i32_261 : BitVec 32 := 32#32
  let v279 : BitVec 32 := Scalar.remsi v278 c32_i32_261
  let c1_i32_265 : BitVec 32 := 1#32
  let v280 : BitVec 32 := Scalar.muli v279 c1_i32_265
  let v281 : BitVec 32 := Scalar.addi c0_i32_266 v280
  v281.toNat
def k0_dev48 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_269 : BitVec 32 := 17#32
  let v288 : BitVec 32 := Scalar.addi v2 c17_i32_269
  let c32_i32_270 : BitVec 32 := 32#32
  let v289 : BitVec 32 := Scalar.remsi v288 c32_i32_270
  let c1_i32_274 : BitVec 32 := 1#32
  let v290 : BitVec 32 := Scalar.muli v289 c1_i32_274
  let v291 : BitVec 32 := Scalar.addi c0_i32_275 v290
  v291.toNat
def k0_dev49 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_278 : BitVec 32 := 18#32
  let v298 : BitVec 32 := Scalar.addi v2 c18_i32_278
  let c32_i32_279 : BitVec 32 := 32#32
  let v299 : BitVec 32 := Scalar.remsi v298 c32_i32_279
  let c1_i32_283 : BitVec 32 := 1#32
  let v300 : BitVec 32 := Scalar.muli v299 c1_i32_283
  let v301 : BitVec 32 := Scalar.addi c0_i32_284 v300
  v301.toNat
def k0_dev50 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_287 : BitVec 32 := 19#32
  let v308 : BitVec 32 := Scalar.addi v2 c19_i32_287
  let c32_i32_288 : BitVec 32 := 32#32
  let v309 : BitVec 32 := Scalar.remsi v308 c32_i32_288
  let c1_i32_292 : BitVec 32 := 1#32
  let v310 : BitVec 32 := Scalar.muli v309 c1_i32_292
  let v311 : BitVec 32 := Scalar.addi c0_i32_293 v310
  v311.toNat
def k0_dev51 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_296 : BitVec 32 := 20#32
  let v318 : BitVec 32 := Scalar.addi v2 c20_i32_296
  let c32_i32_297 : BitVec 32 := 32#32
  let v319 : BitVec 32 := Scalar.remsi v318 c32_i32_297
  let c1_i32_301 : BitVec 32 := 1#32
  let v320 : BitVec 32 := Scalar.muli v319 c1_i32_301
  let v321 : BitVec 32 := Scalar.addi c0_i32_302 v320
  v321.toNat
def k0_dev52 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_305 : BitVec 32 := 21#32
  let v328 : BitVec 32 := Scalar.addi v2 c21_i32_305
  let c32_i32_306 : BitVec 32 := 32#32
  let v329 : BitVec 32 := Scalar.remsi v328 c32_i32_306
  let c1_i32_310 : BitVec 32 := 1#32
  let v330 : BitVec 32 := Scalar.muli v329 c1_i32_310
  let v331 : BitVec 32 := Scalar.addi c0_i32_311 v330
  v331.toNat
def k0_dev53 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_314 : BitVec 32 := 22#32
  let v338 : BitVec 32 := Scalar.addi v2 c22_i32_314
  let c32_i32_315 : BitVec 32 := 32#32
  let v339 : BitVec 32 := Scalar.remsi v338 c32_i32_315
  let c1_i32_319 : BitVec 32 := 1#32
  let v340 : BitVec 32 := Scalar.muli v339 c1_i32_319
  let v341 : BitVec 32 := Scalar.addi c0_i32_320 v340
  v341.toNat
def k0_dev54 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_323 : BitVec 32 := 23#32
  let v348 : BitVec 32 := Scalar.addi v2 c23_i32_323
  let c32_i32_324 : BitVec 32 := 32#32
  let v349 : BitVec 32 := Scalar.remsi v348 c32_i32_324
  let c1_i32_328 : BitVec 32 := 1#32
  let v350 : BitVec 32 := Scalar.muli v349 c1_i32_328
  let v351 : BitVec 32 := Scalar.addi c0_i32_329 v350
  v351.toNat
def k0_dev55 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_332 : BitVec 32 := 24#32
  let v358 : BitVec 32 := Scalar.addi v2 c24_i32_332
  let c32_i32_333 : BitVec 32 := 32#32
  let v359 : BitVec 32 := Scalar.remsi v358 c32_i32_333
  let c1_i32_337 : BitVec 32 := 1#32
  let v360 : BitVec 32 := Scalar.muli v359 c1_i32_337
  let v361 : BitVec 32 := Scalar.addi c0_i32_338 v360
  v361.toNat
def k0_dev56 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_341 : BitVec 32 := 25#32
  let v368 : BitVec 32 := Scalar.addi v2 c25_i32_341
  let c32_i32_342 : BitVec 32 := 32#32
  let v369 : BitVec 32 := Scalar.remsi v368 c32_i32_342
  let c1_i32_346 : BitVec 32 := 1#32
  let v370 : BitVec 32 := Scalar.muli v369 c1_i32_346
  let v371 : BitVec 32 := Scalar.addi c0_i32_347 v370
  v371.toNat
def k0_dev57 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_350 : BitVec 32 := 26#32
  let v378 : BitVec 32 := Scalar.addi v2 c26_i32_350
  let c32_i32_351 : BitVec 32 := 32#32
  let v379 : BitVec 32 := Scalar.remsi v378 c32_i32_351
  let c1_i32_355 : BitVec 32 := 1#32
  let v380 : BitVec 32 := Scalar.muli v379 c1_i32_355
  let v381 : BitVec 32 := Scalar.addi c0_i32_356 v380
  v381.toNat
def k0_dev58 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_359 : BitVec 32 := 27#32
  let v388 : BitVec 32 := Scalar.addi v2 c27_i32_359
  let c32_i32_360 : BitVec 32 := 32#32
  let v389 : BitVec 32 := Scalar.remsi v388 c32_i32_360
  let c1_i32_364 : BitVec 32 := 1#32
  let v390 : BitVec 32 := Scalar.muli v389 c1_i32_364
  let v391 : BitVec 32 := Scalar.addi c0_i32_365 v390
  v391.toNat
def k0_dev59 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_368 : BitVec 32 := 28#32
  let v398 : BitVec 32 := Scalar.addi v2 c28_i32_368
  let c32_i32_369 : BitVec 32 := 32#32
  let v399 : BitVec 32 := Scalar.remsi v398 c32_i32_369
  let c1_i32_373 : BitVec 32 := 1#32
  let v400 : BitVec 32 := Scalar.muli v399 c1_i32_373
  let v401 : BitVec 32 := Scalar.addi c0_i32_374 v400
  v401.toNat
def k0_dev60 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_377 : BitVec 32 := 29#32
  let v408 : BitVec 32 := Scalar.addi v2 c29_i32_377
  let c32_i32_378 : BitVec 32 := 32#32
  let v409 : BitVec 32 := Scalar.remsi v408 c32_i32_378
  let c1_i32_382 : BitVec 32 := 1#32
  let v410 : BitVec 32 := Scalar.muli v409 c1_i32_382
  let v411 : BitVec 32 := Scalar.addi c0_i32_383 v410
  v411.toNat
def k0_dev61 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_386 : BitVec 32 := 30#32
  let v418 : BitVec 32 := Scalar.addi v2 c30_i32_386
  let c32_i32_387 : BitVec 32 := 32#32
  let v419 : BitVec 32 := Scalar.remsi v418 c32_i32_387
  let c1_i32_391 : BitVec 32 := 1#32
  let v420 : BitVec 32 := Scalar.muli v419 c1_i32_391
  let v421 : BitVec 32 := Scalar.addi c0_i32_392 v420
  v421.toNat
def k0_dev62 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_395 : BitVec 32 := 31#32
  let v428 : BitVec 32 := Scalar.addi v2 c31_i32_395
  let c32_i32_396 : BitVec 32 := 32#32
  let v429 : BitVec 32 := Scalar.remsi v428 c32_i32_396
  let c1_i32_400 : BitVec 32 := 1#32
  let v430 : BitVec 32 := Scalar.muli v429 c1_i32_400
  let v431 : BitVec 32 := Scalar.addi c0_i32_401 v430
  v431.toNat
def k0_dev63 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_404 : BitVec 32 := 1#32
  let v438 : BitVec 32 := Scalar.addi v2 c1_i32_404
  let c32_i32_405 : BitVec 32 := 32#32
  let v439 : BitVec 32 := Scalar.remsi v438 c32_i32_405
  let c1_i32_409 : BitVec 32 := 1#32
  let v440 : BitVec 32 := Scalar.muli v439 c1_i32_409
  let v441 : BitVec 32 := Scalar.addi c0_i32_410 v440
  v441.toNat
def k0_dev64 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_413 : BitVec 32 := 2#32
  let v448 : BitVec 32 := Scalar.addi v2 c2_i32_413
  let c32_i32_414 : BitVec 32 := 32#32
  let v449 : BitVec 32 := Scalar.remsi v448 c32_i32_414
  let c1_i32_418 : BitVec 32 := 1#32
  let v450 : BitVec 32 := Scalar.muli v449 c1_i32_418
  let v451 : BitVec 32 := Scalar.addi c0_i32_419 v450
  v451.toNat
def k0_dev65 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_422 : BitVec 32 := 3#32
  let v458 : BitVec 32 := Scalar.addi v2 c3_i32_422
  let c32_i32_423 : BitVec 32 := 32#32
  let v459 : BitVec 32 := Scalar.remsi v458 c32_i32_423
  let c1_i32_427 : BitVec 32 := 1#32
  let v460 : BitVec 32 := Scalar.muli v459 c1_i32_427
  let v461 : BitVec 32 := Scalar.addi c0_i32_428 v460
  v461.toNat
def k0_dev66 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_431 : BitVec 32 := 4#32
  let v468 : BitVec 32 := Scalar.addi v2 c4_i32_431
  let c32_i32_432 : BitVec 32 := 32#32
  let v469 : BitVec 32 := Scalar.remsi v468 c32_i32_432
  let c1_i32_436 : BitVec 32 := 1#32
  let v470 : BitVec 32 := Scalar.muli v469 c1_i32_436
  let v471 : BitVec 32 := Scalar.addi c0_i32_437 v470
  v471.toNat
def k0_dev67 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_440 : BitVec 32 := 5#32
  let v478 : BitVec 32 := Scalar.addi v2 c5_i32_440
  let c32_i32_441 : BitVec 32 := 32#32
  let v479 : BitVec 32 := Scalar.remsi v478 c32_i32_441
  let c1_i32_445 : BitVec 32 := 1#32
  let v480 : BitVec 32 := Scalar.muli v479 c1_i32_445
  let v481 : BitVec 32 := Scalar.addi c0_i32_446 v480
  v481.toNat
def k0_dev68 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_449 : BitVec 32 := 6#32
  let v488 : BitVec 32 := Scalar.addi v2 c6_i32_449
  let c32_i32_450 : BitVec 32 := 32#32
  let v489 : BitVec 32 := Scalar.remsi v488 c32_i32_450
  let c1_i32_454 : BitVec 32 := 1#32
  let v490 : BitVec 32 := Scalar.muli v489 c1_i32_454
  let v491 : BitVec 32 := Scalar.addi c0_i32_455 v490
  v491.toNat
def k0_dev69 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_458 : BitVec 32 := 7#32
  let v498 : BitVec 32 := Scalar.addi v2 c7_i32_458
  let c32_i32_459 : BitVec 32 := 32#32
  let v499 : BitVec 32 := Scalar.remsi v498 c32_i32_459
  let c1_i32_463 : BitVec 32 := 1#32
  let v500 : BitVec 32 := Scalar.muli v499 c1_i32_463
  let v501 : BitVec 32 := Scalar.addi c0_i32_464 v500
  v501.toNat
def k0_dev70 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_467 : BitVec 32 := 8#32
  let v508 : BitVec 32 := Scalar.addi v2 c8_i32_467
  let c32_i32_468 : BitVec 32 := 32#32
  let v509 : BitVec 32 := Scalar.remsi v508 c32_i32_468
  let c1_i32_472 : BitVec 32 := 1#32
  let v510 : BitVec 32 := Scalar.muli v509 c1_i32_472
  let v511 : BitVec 32 := Scalar.addi c0_i32_473 v510
  v511.toNat
def k0_dev71 (d0 : Dev nD) : Nat :=
  let c0_i32_482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_476 : BitVec 32 := 9#32
  let v518 : BitVec 32 := Scalar.addi v2 c9_i32_476
  let c32_i32_477 : BitVec 32 := 32#32
  let v519 : BitVec 32 := Scalar.remsi v518 c32_i32_477
  let c1_i32_481 : BitVec 32 := 1#32
  let v520 : BitVec 32 := Scalar.muli v519 c1_i32_481
  let v521 : BitVec 32 := Scalar.addi c0_i32_482 v520
  v521.toNat
def k0_dev72 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_485 : BitVec 32 := 10#32
  let v528 : BitVec 32 := Scalar.addi v2 c10_i32_485
  let c32_i32_486 : BitVec 32 := 32#32
  let v529 : BitVec 32 := Scalar.remsi v528 c32_i32_486
  let c1_i32_490 : BitVec 32 := 1#32
  let v530 : BitVec 32 := Scalar.muli v529 c1_i32_490
  let v531 : BitVec 32 := Scalar.addi c0_i32_491 v530
  v531.toNat
def k0_dev73 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_494 : BitVec 32 := 11#32
  let v538 : BitVec 32 := Scalar.addi v2 c11_i32_494
  let c32_i32_495 : BitVec 32 := 32#32
  let v539 : BitVec 32 := Scalar.remsi v538 c32_i32_495
  let c1_i32_499 : BitVec 32 := 1#32
  let v540 : BitVec 32 := Scalar.muli v539 c1_i32_499
  let v541 : BitVec 32 := Scalar.addi c0_i32_500 v540
  v541.toNat
def k0_dev74 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_503 : BitVec 32 := 12#32
  let v548 : BitVec 32 := Scalar.addi v2 c12_i32_503
  let c32_i32_504 : BitVec 32 := 32#32
  let v549 : BitVec 32 := Scalar.remsi v548 c32_i32_504
  let c1_i32_508 : BitVec 32 := 1#32
  let v550 : BitVec 32 := Scalar.muli v549 c1_i32_508
  let v551 : BitVec 32 := Scalar.addi c0_i32_509 v550
  v551.toNat
def k0_dev75 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_512 : BitVec 32 := 13#32
  let v558 : BitVec 32 := Scalar.addi v2 c13_i32_512
  let c32_i32_513 : BitVec 32 := 32#32
  let v559 : BitVec 32 := Scalar.remsi v558 c32_i32_513
  let c1_i32_517 : BitVec 32 := 1#32
  let v560 : BitVec 32 := Scalar.muli v559 c1_i32_517
  let v561 : BitVec 32 := Scalar.addi c0_i32_518 v560
  v561.toNat
def k0_dev76 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_521 : BitVec 32 := 14#32
  let v568 : BitVec 32 := Scalar.addi v2 c14_i32_521
  let c32_i32_522 : BitVec 32 := 32#32
  let v569 : BitVec 32 := Scalar.remsi v568 c32_i32_522
  let c1_i32_526 : BitVec 32 := 1#32
  let v570 : BitVec 32 := Scalar.muli v569 c1_i32_526
  let v571 : BitVec 32 := Scalar.addi c0_i32_527 v570
  v571.toNat
def k0_dev77 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_530 : BitVec 32 := 15#32
  let v578 : BitVec 32 := Scalar.addi v2 c15_i32_530
  let c32_i32_531 : BitVec 32 := 32#32
  let v579 : BitVec 32 := Scalar.remsi v578 c32_i32_531
  let c1_i32_535 : BitVec 32 := 1#32
  let v580 : BitVec 32 := Scalar.muli v579 c1_i32_535
  let v581 : BitVec 32 := Scalar.addi c0_i32_536 v580
  v581.toNat
def k0_dev78 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_539 : BitVec 32 := 16#32
  let v588 : BitVec 32 := Scalar.addi v2 c16_i32_539
  let c32_i32_540 : BitVec 32 := 32#32
  let v589 : BitVec 32 := Scalar.remsi v588 c32_i32_540
  let c1_i32_544 : BitVec 32 := 1#32
  let v590 : BitVec 32 := Scalar.muli v589 c1_i32_544
  let v591 : BitVec 32 := Scalar.addi c0_i32_545 v590
  v591.toNat
def k0_dev79 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_548 : BitVec 32 := 17#32
  let v598 : BitVec 32 := Scalar.addi v2 c17_i32_548
  let c32_i32_549 : BitVec 32 := 32#32
  let v599 : BitVec 32 := Scalar.remsi v598 c32_i32_549
  let c1_i32_553 : BitVec 32 := 1#32
  let v600 : BitVec 32 := Scalar.muli v599 c1_i32_553
  let v601 : BitVec 32 := Scalar.addi c0_i32_554 v600
  v601.toNat
def k0_dev80 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_557 : BitVec 32 := 18#32
  let v608 : BitVec 32 := Scalar.addi v2 c18_i32_557
  let c32_i32_558 : BitVec 32 := 32#32
  let v609 : BitVec 32 := Scalar.remsi v608 c32_i32_558
  let c1_i32_562 : BitVec 32 := 1#32
  let v610 : BitVec 32 := Scalar.muli v609 c1_i32_562
  let v611 : BitVec 32 := Scalar.addi c0_i32_563 v610
  v611.toNat
def k0_dev81 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_566 : BitVec 32 := 19#32
  let v618 : BitVec 32 := Scalar.addi v2 c19_i32_566
  let c32_i32_567 : BitVec 32 := 32#32
  let v619 : BitVec 32 := Scalar.remsi v618 c32_i32_567
  let c1_i32_571 : BitVec 32 := 1#32
  let v620 : BitVec 32 := Scalar.muli v619 c1_i32_571
  let v621 : BitVec 32 := Scalar.addi c0_i32_572 v620
  v621.toNat
def k0_dev82 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_575 : BitVec 32 := 20#32
  let v628 : BitVec 32 := Scalar.addi v2 c20_i32_575
  let c32_i32_576 : BitVec 32 := 32#32
  let v629 : BitVec 32 := Scalar.remsi v628 c32_i32_576
  let c1_i32_580 : BitVec 32 := 1#32
  let v630 : BitVec 32 := Scalar.muli v629 c1_i32_580
  let v631 : BitVec 32 := Scalar.addi c0_i32_581 v630
  v631.toNat
def k0_dev83 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_584 : BitVec 32 := 21#32
  let v638 : BitVec 32 := Scalar.addi v2 c21_i32_584
  let c32_i32_585 : BitVec 32 := 32#32
  let v639 : BitVec 32 := Scalar.remsi v638 c32_i32_585
  let c1_i32_589 : BitVec 32 := 1#32
  let v640 : BitVec 32 := Scalar.muli v639 c1_i32_589
  let v641 : BitVec 32 := Scalar.addi c0_i32_590 v640
  v641.toNat
def k0_dev84 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_593 : BitVec 32 := 22#32
  let v648 : BitVec 32 := Scalar.addi v2 c22_i32_593
  let c32_i32_594 : BitVec 32 := 32#32
  let v649 : BitVec 32 := Scalar.remsi v648 c32_i32_594
  let c1_i32_598 : BitVec 32 := 1#32
  let v650 : BitVec 32 := Scalar.muli v649 c1_i32_598
  let v651 : BitVec 32 := Scalar.addi c0_i32_599 v650
  v651.toNat
def k0_dev85 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_602 : BitVec 32 := 23#32
  let v658 : BitVec 32 := Scalar.addi v2 c23_i32_602
  let c32_i32_603 : BitVec 32 := 32#32
  let v659 : BitVec 32 := Scalar.remsi v658 c32_i32_603
  let c1_i32_607 : BitVec 32 := 1#32
  let v660 : BitVec 32 := Scalar.muli v659 c1_i32_607
  let v661 : BitVec 32 := Scalar.addi c0_i32_608 v660
  v661.toNat
def k0_dev86 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_611 : BitVec 32 := 24#32
  let v668 : BitVec 32 := Scalar.addi v2 c24_i32_611
  let c32_i32_612 : BitVec 32 := 32#32
  let v669 : BitVec 32 := Scalar.remsi v668 c32_i32_612
  let c1_i32_616 : BitVec 32 := 1#32
  let v670 : BitVec 32 := Scalar.muli v669 c1_i32_616
  let v671 : BitVec 32 := Scalar.addi c0_i32_617 v670
  v671.toNat
def k0_dev87 (d0 : Dev nD) : Nat :=
  let c0_i32_626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_620 : BitVec 32 := 25#32
  let v678 : BitVec 32 := Scalar.addi v2 c25_i32_620
  let c32_i32_621 : BitVec 32 := 32#32
  let v679 : BitVec 32 := Scalar.remsi v678 c32_i32_621
  let c1_i32_625 : BitVec 32 := 1#32
  let v680 : BitVec 32 := Scalar.muli v679 c1_i32_625
  let v681 : BitVec 32 := Scalar.addi c0_i32_626 v680
  v681.toNat
def k0_dev88 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_629 : BitVec 32 := 26#32
  let v688 : BitVec 32 := Scalar.addi v2 c26_i32_629
  let c32_i32_630 : BitVec 32 := 32#32
  let v689 : BitVec 32 := Scalar.remsi v688 c32_i32_630
  let c1_i32_634 : BitVec 32 := 1#32
  let v690 : BitVec 32 := Scalar.muli v689 c1_i32_634
  let v691 : BitVec 32 := Scalar.addi c0_i32_635 v690
  v691.toNat
def k0_dev89 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_638 : BitVec 32 := 27#32
  let v698 : BitVec 32 := Scalar.addi v2 c27_i32_638
  let c32_i32_639 : BitVec 32 := 32#32
  let v699 : BitVec 32 := Scalar.remsi v698 c32_i32_639
  let c1_i32_643 : BitVec 32 := 1#32
  let v700 : BitVec 32 := Scalar.muli v699 c1_i32_643
  let v701 : BitVec 32 := Scalar.addi c0_i32_644 v700
  v701.toNat
def k0_dev90 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_647 : BitVec 32 := 28#32
  let v708 : BitVec 32 := Scalar.addi v2 c28_i32_647
  let c32_i32_648 : BitVec 32 := 32#32
  let v709 : BitVec 32 := Scalar.remsi v708 c32_i32_648
  let c1_i32_652 : BitVec 32 := 1#32
  let v710 : BitVec 32 := Scalar.muli v709 c1_i32_652
  let v711 : BitVec 32 := Scalar.addi c0_i32_653 v710
  v711.toNat
def k0_dev91 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_656 : BitVec 32 := 29#32
  let v718 : BitVec 32 := Scalar.addi v2 c29_i32_656
  let c32_i32_657 : BitVec 32 := 32#32
  let v719 : BitVec 32 := Scalar.remsi v718 c32_i32_657
  let c1_i32_661 : BitVec 32 := 1#32
  let v720 : BitVec 32 := Scalar.muli v719 c1_i32_661
  let v721 : BitVec 32 := Scalar.addi c0_i32_662 v720
  v721.toNat
def k0_dev92 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_665 : BitVec 32 := 30#32
  let v728 : BitVec 32 := Scalar.addi v2 c30_i32_665
  let c32_i32_666 : BitVec 32 := 32#32
  let v729 : BitVec 32 := Scalar.remsi v728 c32_i32_666
  let c1_i32_670 : BitVec 32 := 1#32
  let v730 : BitVec 32 := Scalar.muli v729 c1_i32_670
  let v731 : BitVec 32 := Scalar.addi c0_i32_671 v730
  v731.toNat
def k0_dev93 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_674 : BitVec 32 := 31#32
  let v738 : BitVec 32 := Scalar.addi v2 c31_i32_674
  let c32_i32_675 : BitVec 32 := 32#32
  let v739 : BitVec 32 := Scalar.remsi v738 c32_i32_675
  let c1_i32_679 : BitVec 32 := 1#32
  let v740 : BitVec 32 := Scalar.muli v739 c1_i32_679
  let v741 : BitVec 32 := Scalar.addi c0_i32_680 v740
  v741.toNat
def k0_dev94 (d0 : Dev nD) : Nat :=
  let c0_i32_1013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1006 : BitVec 32 := 31#32
  let v1074 : BitVec 32 := Scalar.addi v2 c31_i32_1006
  let c32_i32_1007 : BitVec 32 := 32#32
  let v1075 : BitVec 32 := Scalar.remsi v1074 c32_i32_1007
  let c1_i32_1012 : BitVec 32 := 1#32
  let v1076 : BitVec 32 := Scalar.muli v1075 c1_i32_1012
  let v1077 : BitVec 32 := Scalar.addi c0_i32_1013 v1076
  v1077.toNat
def k0_dev95 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1018 : BitVec 32 := 30#32
  let v1086 : BitVec 32 := Scalar.addi v2 c30_i32_1018
  let c32_i32_1019 : BitVec 32 := 32#32
  let v1087 : BitVec 32 := Scalar.remsi v1086 c32_i32_1019
  let c1_i32_1024 : BitVec 32 := 1#32
  let v1088 : BitVec 32 := Scalar.muli v1087 c1_i32_1024
  let v1089 : BitVec 32 := Scalar.addi c0_i32_1025 v1088
  v1089.toNat
def k0_dev96 (d0 : Dev nD) : Nat :=
  let c0_i32_1037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1030 : BitVec 32 := 29#32
  let v1098 : BitVec 32 := Scalar.addi v2 c29_i32_1030
  let c32_i32_1031 : BitVec 32 := 32#32
  let v1099 : BitVec 32 := Scalar.remsi v1098 c32_i32_1031
  let c1_i32_1036 : BitVec 32 := 1#32
  let v1100 : BitVec 32 := Scalar.muli v1099 c1_i32_1036
  let v1101 : BitVec 32 := Scalar.addi c0_i32_1037 v1100
  v1101.toNat
def k0_dev97 (d0 : Dev nD) : Nat :=
  let c0_i32_1049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1042 : BitVec 32 := 28#32
  let v1110 : BitVec 32 := Scalar.addi v2 c28_i32_1042
  let c32_i32_1043 : BitVec 32 := 32#32
  let v1111 : BitVec 32 := Scalar.remsi v1110 c32_i32_1043
  let c1_i32_1048 : BitVec 32 := 1#32
  let v1112 : BitVec 32 := Scalar.muli v1111 c1_i32_1048
  let v1113 : BitVec 32 := Scalar.addi c0_i32_1049 v1112
  v1113.toNat
def k0_dev98 (d0 : Dev nD) : Nat :=
  let c0_i32_1061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1054 : BitVec 32 := 27#32
  let v1122 : BitVec 32 := Scalar.addi v2 c27_i32_1054
  let c32_i32_1055 : BitVec 32 := 32#32
  let v1123 : BitVec 32 := Scalar.remsi v1122 c32_i32_1055
  let c1_i32_1060 : BitVec 32 := 1#32
  let v1124 : BitVec 32 := Scalar.muli v1123 c1_i32_1060
  let v1125 : BitVec 32 := Scalar.addi c0_i32_1061 v1124
  v1125.toNat
def k0_dev99 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1066 : BitVec 32 := 26#32
  let v1134 : BitVec 32 := Scalar.addi v2 c26_i32_1066
  let c32_i32_1067 : BitVec 32 := 32#32
  let v1135 : BitVec 32 := Scalar.remsi v1134 c32_i32_1067
  let c1_i32_1072 : BitVec 32 := 1#32
  let v1136 : BitVec 32 := Scalar.muli v1135 c1_i32_1072
  let v1137 : BitVec 32 := Scalar.addi c0_i32_1073 v1136
  v1137.toNat
def k0_dev100 (d0 : Dev nD) : Nat :=
  let c0_i32_1085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1078 : BitVec 32 := 25#32
  let v1146 : BitVec 32 := Scalar.addi v2 c25_i32_1078
  let c32_i32_1079 : BitVec 32 := 32#32
  let v1147 : BitVec 32 := Scalar.remsi v1146 c32_i32_1079
  let c1_i32_1084 : BitVec 32 := 1#32
  let v1148 : BitVec 32 := Scalar.muli v1147 c1_i32_1084
  let v1149 : BitVec 32 := Scalar.addi c0_i32_1085 v1148
  v1149.toNat
def k0_dev101 (d0 : Dev nD) : Nat :=
  let c0_i32_1097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1090 : BitVec 32 := 24#32
  let v1158 : BitVec 32 := Scalar.addi v2 c24_i32_1090
  let c32_i32_1091 : BitVec 32 := 32#32
  let v1159 : BitVec 32 := Scalar.remsi v1158 c32_i32_1091
  let c1_i32_1096 : BitVec 32 := 1#32
  let v1160 : BitVec 32 := Scalar.muli v1159 c1_i32_1096
  let v1161 : BitVec 32 := Scalar.addi c0_i32_1097 v1160
  v1161.toNat
def k0_dev102 (d0 : Dev nD) : Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1201 : BitVec 32 := 23#32
  let v1298 : BitVec 32 := Scalar.addi v2 c23_i32_1201
  let c32_i32_1202 : BitVec 32 := 32#32
  let v1299 : BitVec 32 := Scalar.remsi v1298 c32_i32_1202
  let c1_i32_1207 : BitVec 32 := 1#32
  let v1300 : BitVec 32 := Scalar.muli v1299 c1_i32_1207
  let v1301 : BitVec 32 := Scalar.addi c0_i32_1208 v1300
  v1301.toNat
def k0_dev103 (d0 : Dev nD) : Nat :=
  let c0_i32_1220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1213 : BitVec 32 := 22#32
  let v1310 : BitVec 32 := Scalar.addi v2 c22_i32_1213
  let c32_i32_1214 : BitVec 32 := 32#32
  let v1311 : BitVec 32 := Scalar.remsi v1310 c32_i32_1214
  let c1_i32_1219 : BitVec 32 := 1#32
  let v1312 : BitVec 32 := Scalar.muli v1311 c1_i32_1219
  let v1313 : BitVec 32 := Scalar.addi c0_i32_1220 v1312
  v1313.toNat
def k0_dev104 (d0 : Dev nD) : Nat :=
  let c0_i32_1232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1225 : BitVec 32 := 21#32
  let v1322 : BitVec 32 := Scalar.addi v2 c21_i32_1225
  let c32_i32_1226 : BitVec 32 := 32#32
  let v1323 : BitVec 32 := Scalar.remsi v1322 c32_i32_1226
  let c1_i32_1231 : BitVec 32 := 1#32
  let v1324 : BitVec 32 := Scalar.muli v1323 c1_i32_1231
  let v1325 : BitVec 32 := Scalar.addi c0_i32_1232 v1324
  v1325.toNat
def k0_dev105 (d0 : Dev nD) : Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1237 : BitVec 32 := 20#32
  let v1334 : BitVec 32 := Scalar.addi v2 c20_i32_1237
  let c32_i32_1238 : BitVec 32 := 32#32
  let v1335 : BitVec 32 := Scalar.remsi v1334 c32_i32_1238
  let c1_i32_1243 : BitVec 32 := 1#32
  let v1336 : BitVec 32 := Scalar.muli v1335 c1_i32_1243
  let v1337 : BitVec 32 := Scalar.addi c0_i32_1244 v1336
  v1337.toNat
def k0_dev106 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1249 : BitVec 32 := 19#32
  let v1346 : BitVec 32 := Scalar.addi v2 c19_i32_1249
  let c32_i32_1250 : BitVec 32 := 32#32
  let v1347 : BitVec 32 := Scalar.remsi v1346 c32_i32_1250
  let c1_i32_1255 : BitVec 32 := 1#32
  let v1348 : BitVec 32 := Scalar.muli v1347 c1_i32_1255
  let v1349 : BitVec 32 := Scalar.addi c0_i32_1256 v1348
  v1349.toNat
def k0_dev107 (d0 : Dev nD) : Nat :=
  let c0_i32_1268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1261 : BitVec 32 := 18#32
  let v1358 : BitVec 32 := Scalar.addi v2 c18_i32_1261
  let c32_i32_1262 : BitVec 32 := 32#32
  let v1359 : BitVec 32 := Scalar.remsi v1358 c32_i32_1262
  let c1_i32_1267 : BitVec 32 := 1#32
  let v1360 : BitVec 32 := Scalar.muli v1359 c1_i32_1267
  let v1361 : BitVec 32 := Scalar.addi c0_i32_1268 v1360
  v1361.toNat
def k0_dev108 (d0 : Dev nD) : Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1273 : BitVec 32 := 17#32
  let v1370 : BitVec 32 := Scalar.addi v2 c17_i32_1273
  let c32_i32_1274 : BitVec 32 := 32#32
  let v1371 : BitVec 32 := Scalar.remsi v1370 c32_i32_1274
  let c1_i32_1279 : BitVec 32 := 1#32
  let v1372 : BitVec 32 := Scalar.muli v1371 c1_i32_1279
  let v1373 : BitVec 32 := Scalar.addi c0_i32_1280 v1372
  v1373.toNat
def k0_dev109 (d0 : Dev nD) : Nat :=
  let c0_i32_1292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1285 : BitVec 32 := 16#32
  let v1382 : BitVec 32 := Scalar.addi v2 c16_i32_1285
  let c32_i32_1286 : BitVec 32 := 32#32
  let v1383 : BitVec 32 := Scalar.remsi v1382 c32_i32_1286
  let c1_i32_1291 : BitVec 32 := 1#32
  let v1384 : BitVec 32 := Scalar.muli v1383 c1_i32_1291
  let v1385 : BitVec 32 := Scalar.addi c0_i32_1292 v1384
  v1385.toNat
def k0_dev110 (d0 : Dev nD) : Nat :=
  let c0_i32_1403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1396 : BitVec 32 := 15#32
  let v1522 : BitVec 32 := Scalar.addi v2 c15_i32_1396
  let c32_i32_1397 : BitVec 32 := 32#32
  let v1523 : BitVec 32 := Scalar.remsi v1522 c32_i32_1397
  let c1_i32_1402 : BitVec 32 := 1#32
  let v1524 : BitVec 32 := Scalar.muli v1523 c1_i32_1402
  let v1525 : BitVec 32 := Scalar.addi c0_i32_1403 v1524
  v1525.toNat
def k0_dev111 (d0 : Dev nD) : Nat :=
  let c0_i32_1415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1408 : BitVec 32 := 14#32
  let v1534 : BitVec 32 := Scalar.addi v2 c14_i32_1408
  let c32_i32_1409 : BitVec 32 := 32#32
  let v1535 : BitVec 32 := Scalar.remsi v1534 c32_i32_1409
  let c1_i32_1414 : BitVec 32 := 1#32
  let v1536 : BitVec 32 := Scalar.muli v1535 c1_i32_1414
  let v1537 : BitVec 32 := Scalar.addi c0_i32_1415 v1536
  v1537.toNat
def k0_dev112 (d0 : Dev nD) : Nat :=
  let c0_i32_1427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1420 : BitVec 32 := 13#32
  let v1546 : BitVec 32 := Scalar.addi v2 c13_i32_1420
  let c32_i32_1421 : BitVec 32 := 32#32
  let v1547 : BitVec 32 := Scalar.remsi v1546 c32_i32_1421
  let c1_i32_1426 : BitVec 32 := 1#32
  let v1548 : BitVec 32 := Scalar.muli v1547 c1_i32_1426
  let v1549 : BitVec 32 := Scalar.addi c0_i32_1427 v1548
  v1549.toNat
def k0_dev113 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1432 : BitVec 32 := 12#32
  let v1558 : BitVec 32 := Scalar.addi v2 c12_i32_1432
  let c32_i32_1433 : BitVec 32 := 32#32
  let v1559 : BitVec 32 := Scalar.remsi v1558 c32_i32_1433
  let c1_i32_1438 : BitVec 32 := 1#32
  let v1560 : BitVec 32 := Scalar.muli v1559 c1_i32_1438
  let v1561 : BitVec 32 := Scalar.addi c0_i32_1439 v1560
  v1561.toNat
def k0_dev114 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1444 : BitVec 32 := 11#32
  let v1570 : BitVec 32 := Scalar.addi v2 c11_i32_1444
  let c32_i32_1445 : BitVec 32 := 32#32
  let v1571 : BitVec 32 := Scalar.remsi v1570 c32_i32_1445
  let c1_i32_1450 : BitVec 32 := 1#32
  let v1572 : BitVec 32 := Scalar.muli v1571 c1_i32_1450
  let v1573 : BitVec 32 := Scalar.addi c0_i32_1451 v1572
  v1573.toNat
def k0_dev115 (d0 : Dev nD) : Nat :=
  let c0_i32_1463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1456 : BitVec 32 := 10#32
  let v1582 : BitVec 32 := Scalar.addi v2 c10_i32_1456
  let c32_i32_1457 : BitVec 32 := 32#32
  let v1583 : BitVec 32 := Scalar.remsi v1582 c32_i32_1457
  let c1_i32_1462 : BitVec 32 := 1#32
  let v1584 : BitVec 32 := Scalar.muli v1583 c1_i32_1462
  let v1585 : BitVec 32 := Scalar.addi c0_i32_1463 v1584
  v1585.toNat
def k0_dev116 (d0 : Dev nD) : Nat :=
  let c0_i32_1475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1468 : BitVec 32 := 9#32
  let v1594 : BitVec 32 := Scalar.addi v2 c9_i32_1468
  let c32_i32_1469 : BitVec 32 := 32#32
  let v1595 : BitVec 32 := Scalar.remsi v1594 c32_i32_1469
  let c1_i32_1474 : BitVec 32 := 1#32
  let v1596 : BitVec 32 := Scalar.muli v1595 c1_i32_1474
  let v1597 : BitVec 32 := Scalar.addi c0_i32_1475 v1596
  v1597.toNat
def k0_dev117 (d0 : Dev nD) : Nat :=
  let c0_i32_1487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1480 : BitVec 32 := 8#32
  let v1606 : BitVec 32 := Scalar.addi v2 c8_i32_1480
  let c32_i32_1481 : BitVec 32 := 32#32
  let v1607 : BitVec 32 := Scalar.remsi v1606 c32_i32_1481
  let c1_i32_1486 : BitVec 32 := 1#32
  let v1608 : BitVec 32 := Scalar.muli v1607 c1_i32_1486
  let v1609 : BitVec 32 := Scalar.addi c0_i32_1487 v1608
  v1609.toNat
def k0_dev118 (d0 : Dev nD) : Nat :=
  let c0_i32_1591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1584 : BitVec 32 := 7#32
  let v1740 : BitVec 32 := Scalar.addi v2 c7_i32_1584
  let c32_i32_1585 : BitVec 32 := 32#32
  let v1741 : BitVec 32 := Scalar.remsi v1740 c32_i32_1585
  let c1_i32_1590 : BitVec 32 := 1#32
  let v1742 : BitVec 32 := Scalar.muli v1741 c1_i32_1590
  let v1743 : BitVec 32 := Scalar.addi c0_i32_1591 v1742
  v1743.toNat
def k0_dev119 (d0 : Dev nD) : Nat :=
  let c0_i32_1603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1596 : BitVec 32 := 6#32
  let v1752 : BitVec 32 := Scalar.addi v2 c6_i32_1596
  let c32_i32_1597 : BitVec 32 := 32#32
  let v1753 : BitVec 32 := Scalar.remsi v1752 c32_i32_1597
  let c1_i32_1602 : BitVec 32 := 1#32
  let v1754 : BitVec 32 := Scalar.muli v1753 c1_i32_1602
  let v1755 : BitVec 32 := Scalar.addi c0_i32_1603 v1754
  v1755.toNat
def k0_dev120 (d0 : Dev nD) : Nat :=
  let c0_i32_1615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1608 : BitVec 32 := 5#32
  let v1764 : BitVec 32 := Scalar.addi v2 c5_i32_1608
  let c32_i32_1609 : BitVec 32 := 32#32
  let v1765 : BitVec 32 := Scalar.remsi v1764 c32_i32_1609
  let c1_i32_1614 : BitVec 32 := 1#32
  let v1766 : BitVec 32 := Scalar.muli v1765 c1_i32_1614
  let v1767 : BitVec 32 := Scalar.addi c0_i32_1615 v1766
  v1767.toNat
def k0_dev121 (d0 : Dev nD) : Nat :=
  let c0_i32_1627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1620 : BitVec 32 := 4#32
  let v1776 : BitVec 32 := Scalar.addi v2 c4_i32_1620
  let c32_i32_1621 : BitVec 32 := 32#32
  let v1777 : BitVec 32 := Scalar.remsi v1776 c32_i32_1621
  let c1_i32_1626 : BitVec 32 := 1#32
  let v1778 : BitVec 32 := Scalar.muli v1777 c1_i32_1626
  let v1779 : BitVec 32 := Scalar.addi c0_i32_1627 v1778
  v1779.toNat
def k0_dev122 (d0 : Dev nD) : Nat :=
  let c0_i32_1639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1632 : BitVec 32 := 3#32
  let v1788 : BitVec 32 := Scalar.addi v2 c3_i32_1632
  let c32_i32_1633 : BitVec 32 := 32#32
  let v1789 : BitVec 32 := Scalar.remsi v1788 c32_i32_1633
  let c1_i32_1638 : BitVec 32 := 1#32
  let v1790 : BitVec 32 := Scalar.muli v1789 c1_i32_1638
  let v1791 : BitVec 32 := Scalar.addi c0_i32_1639 v1790
  v1791.toNat
def k0_dev123 (d0 : Dev nD) : Nat :=
  let c0_i32_1651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1644 : BitVec 32 := 2#32
  let v1800 : BitVec 32 := Scalar.addi v2 c2_i32_1644
  let c32_i32_1645 : BitVec 32 := 32#32
  let v1801 : BitVec 32 := Scalar.remsi v1800 c32_i32_1645
  let c1_i32_1650 : BitVec 32 := 1#32
  let v1802 : BitVec 32 := Scalar.muli v1801 c1_i32_1650
  let v1803 : BitVec 32 := Scalar.addi c0_i32_1651 v1802
  v1803.toNat
def k0_dev124 (d0 : Dev nD) : Nat :=
  let c0_i32_1663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1656 : BitVec 32 := 1#32
  let v1812 : BitVec 32 := Scalar.addi v2 c1_i32_1656
  let c32_i32_1657 : BitVec 32 := 32#32
  let v1813 : BitVec 32 := Scalar.remsi v1812 c32_i32_1657
  let c1_i32_1662 : BitVec 32 := 1#32
  let v1814 : BitVec 32 := Scalar.muli v1813 c1_i32_1662
  let v1815 : BitVec 32 := Scalar.addi c0_i32_1663 v1814
  v1815.toNat
abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S512x512 : Shape := ⟨2, ![512, 512]⟩
abbrev S512x64 : Shape := ⟨2, ![512, 64]⟩
abbrev S64x512x1024 : Shape := ⟨3, ![64, 512, 1024]⟩
abbrev S64x1024x512 : Shape := ⟨3, ![64, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S512x2x1 : Shape := ⟨3, ![512, 2, 1]⟩
abbrev S64 : Shape := ⟨1, ![64]⟩
abbrev S1x1x64 : Shape := ⟨3, ![1, 1, 64]⟩
abbrev S512x2x64 : Shape := ⟨3, ![512, 2, 64]⟩
abbrev S512x64x1024 : Shape := ⟨3, ![512, 64, 1024]⟩
abbrev S64x512x512 : Shape := ⟨3, ![64, 512, 512]⟩
abbrev S64x512 : Shape := ⟨2, ![64, 512]⟩
abbrev S64x512x1 : Shape := ⟨3, ![64, 512, 1]⟩

abbrev nBuf : Space → Nat
  | .hbm => 43
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x64, .f32⟩
  | .hbm, ⟨2, _⟩ => ⟨S64x512x1024, .f32⟩
  | .hbm, ⟨3, _⟩ => ⟨S64x1024x512, .f32⟩
  | .hbm, ⟨4, _⟩ => ⟨S512x64, .f32⟩
  | .hbm, ⟨5, _⟩ => ⟨S512x2, .f32⟩
  | .hbm, ⟨6, _⟩ => ⟨S512x2, .i32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x2, .f32⟩
  | .hbm, ⟨11, _⟩ => ⟨S512x2, .f32⟩
  | .hbm, ⟨12, _⟩ => ⟨S512x2, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x2, .f32⟩
  | .hbm, ⟨17, _⟩ => ⟨S512x2, .f32⟩
  | .hbm, ⟨18, _⟩ => ⟨S512x2x1, .i32⟩
  | .hbm, ⟨19, _⟩ => ⟨S64, .i32⟩
  | .hbm, ⟨20, _⟩ => ⟨S1x1x64, .i32⟩
  | .hbm, ⟨21, _⟩ => ⟨S512x2x64, .i32⟩
  | .hbm, ⟨22, _⟩ => ⟨S512x2x64, .i32⟩
  | .hbm, ⟨23, _⟩ => ⟨S512x2x64, .i1⟩
  | .hbm, ⟨24, _⟩ => ⟨S512x2x1, .f32⟩
  | .hbm, ⟨25, _⟩ => ⟨S_, .f32⟩
  | .hbm, ⟨26, _⟩ => ⟨S_, .f32⟩
  | .hbm, ⟨27, _⟩ => ⟨S512x2x64, .f32⟩
  | .hbm, ⟨28, _⟩ => ⟨S512x2x64, .f32⟩
  | .hbm, ⟨29, _⟩ => ⟨S512x2x64, .f32⟩
  | .hbm, ⟨30, _⟩ => ⟨S_, .f32⟩
  | .hbm, ⟨31, _⟩ => ⟨S512x64, .f32⟩
  | .hbm, ⟨32, _⟩ => ⟨S512x64x1024, .f32⟩
  | .hbm, ⟨33, _⟩ => ⟨S_, .f32⟩
  | .hbm, ⟨34, _⟩ => ⟨S512x64x1024, .f32⟩
  | .hbm, ⟨35, _⟩ => ⟨S512x64x1024, .f32⟩
  | .hbm, ⟨36, _⟩ => ⟨S64x512x512, .f32⟩
  | .hbm, ⟨37, _⟩ => ⟨S64x512, .f32⟩
  | .hbm, ⟨38, _⟩ => ⟨S64x512x1, .f32⟩
  | .hbm, ⟨39, _⟩ => ⟨S64x512x512, .f32⟩
  | .hbm, ⟨40, _⟩ => ⟨S64x512x512, .f32⟩
  | .hbm, ⟨41, _⟩ => ⟨S_, .f32⟩
  | .hbm, ⟨42, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Model.lean ====
/-
  The kernel's body, as the loops it was traced from: seven rounds of signals, transfers and waits over the 31 other
  devices' slots, and the four batches of the two experts' feed-forward between them.
-/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen
open Idealize.ShloMosaic Idealize.SL.Sem

variable {F : FTy → Type} [FloatOps F] [Named F]

/-- The kernel's operands: the staged blocks, the result's block, and the four landing and working buffers. -/
abbrev xM : Memref sig .tc .vmem S16x512 .f32 := Memref.whole cc0_stg0_0
abbrev rM : Memref sig .tc .vmem S2x512 .f32 := Memref.whole cc0_stg1_0
abbrev w1M : Memref sig .tc .vmem S2x512x1024 .bf16 := Memref.whole cc0_stg2_0
abbrev w2M : Memref sig .tc .vmem S2x1024x512 .bf16 := Memref.whole cc0_stg3_0
abbrev oM : Memref sig .tc .vmem S16x512 .f32 := Memref.whole cc0_stg4_0
abbrev xgM : Memref sig .tc .vmem S32x16x512 .f32 := Memref.whole cc0_scratch0
abbrev rgM : Memref sig .tc .vmem S32x2x512 .f32 := Memref.whole cc0_scratch1
abbrev paM : Memref sig .tc .vmem S32x16x512 .f32 := Memref.whole cc0_scratch2
abbrev pbM : Memref sig .tc .vmem S32x16x512 .f32 := Memref.whole cc0_scratch3

theorem inbS (q : Fin 32) : ∀ a, (![q.val] : Fin 1 → Nat) a + S1.size a ≤ S32.size a := by
  intro a; have hq := q.isLt; fin_cases a; show q.val + 1 ≤ 32; omega
theorem inbX (q : Fin 32) : ∀ a, (![q.val, 0, 0] : Fin 3 → Nat) a + S1x16x512.size a ≤ S32x16x512.size a := by
  intro a; have hq := q.isLt; fin_cases a
  · show q.val + 1 ≤ 32; omega
  · exact Nat.le_refl 16
  · exact Nat.le_refl 512
theorem inbR (q : Fin 32) : ∀ a, (![q.val, 0, 0] : Fin 3 → Nat) a + S1x2x512.size a ≤ S32x2x512.size a := by
  intro a; have hq := q.isLt; fin_cases a
  · show q.val + 1 ≤ 32; omega
  · exact Nat.le_refl 2
  · exact Nat.le_refl 512
theorem inb8 (b : Fin 4) : ∀ a, (![8 * b.val, 0, 0] : Fin 3 → Nat) a + S8x16x512.size a ≤ S32x16x512.size a := by
  intro a; have hq := b.isLt; fin_cases a
  · show 8 * b.val + 8 ≤ 32; omega
  · exact Nat.le_refl 16
  · exact Nat.le_refl 512

/-- Semaphore `q` of a 32-semaphore array. -/
def semAt (A : DmaSems sig S32) (q : Fin 32) : DmaSem sig :=
  ((A.slice (Rect.unit (s := S32) ![q.val] S1.size (inbS q))).squeeze S_ squeezes_S1_S_).sem
/-- Slot `q` of a token buffer, and of the router's landing buffer. -/
def slotX (A : Memref sig .tc .vmem S32x16x512 .f32) (q : Fin 32) : Memref sig .tc .vmem S16x512 .f32 :=
  (A.slice (Rect.unit (s := S32x16x512) ![q.val, 0, 0] S1x16x512.size (inbX q)) (fun _ => rfl)).squeeze S16x512 squeezes_S1x16x512_S16x512
def slotR (A : Memref sig .tc .vmem S32x2x512 .f32) (q : Fin 32) : Memref sig .tc .vmem S2x512 .f32 :=
  (A.slice (Rect.unit (s := S32x2x512) ![q.val, 0, 0] S1x2x512.size (inbR q)) (fun _ => rfl)).squeeze S2x512 squeezes_S1x2x512_S2x512

/-- Slot `q`'s rectangle, eight slots' from `8 b`, and the whole buffers'. -/
abbrev rectX (q : Fin 32) : Rect S32x16x512 := Rect.unit (s := S32x16x512) ![q.val, 0, 0] S1x16x512.size (inbX q)
abbrev rectR (q : Fin 32) : Rect S32x2x512 := Rect.unit (s := S32x2x512) ![q.val, 0, 0] S1x2x512.size (inbR q)
abbrev rect8 (b : Fin 4) : Rect S32x16x512 := Rect.unit (s := S32x16x512) ![8 * b.val, 0, 0] S8x16x512.size (inb8 b)
abbrev rectX0 : Rect S16x512 := Rect.unit (s := S16x512) ![0, 0] S16x512.size inb_S16x512_S16x512_0_0
abbrev rectR0 : Rect S2x512 := Rect.unit (s := S2x512) ![0, 0] S2x512.size inb_S2x512_S2x512_0_0
abbrev rectXA : Rect S32x16x512 := Rect.unit (s := S32x16x512) ![0, 0, 0] S32x16x512.size inb_S32x16x512_S32x16x512_0_0_0
abbrev rectRA : Rect S32x2x512 := Rect.unit (s := S32x2x512) ![0, 0, 0] S32x2x512.size inb_S32x2x512_S32x2x512_0_0_0
abbrev rectU0 : Rect S2x512x1024 := Rect.unit (s := S2x512x1024) ![0, 0, 0] S1x512x1024.size inb_S2x512x1024_S1x512x1024_0_0_0
abbrev rectU1 : Rect S2x512x1024 := Rect.unit (s := S2x512x1024) ![1, 0, 0] S1x512x1024.size inb_S2x512x1024_S1x512x1024_1_0_0
abbrev rectD0 : Rect S2x1024x512 := Rect.unit (s := S2x1024x512) ![0, 0, 0] S1x1024x512.size inb_S2x1024x512_S1x1024x512_0_0_0
abbrev rectD1 : Rect S2x1024x512 := Rect.unit (s := S2x1024x512) ![1, 0, 0] S1x1024x512.size inb_S2x1024x512_S1x1024x512_1_0_0

/-- The devices the four loops address, as the kernel computes them. -/
def devS (d : Dev nD) : Fin 31 → Dev nD :=
  ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩, ⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩, ⟨k0_dev31 d, k0_dev31_lt d⟩]
def devR (d : Dev nD) : Fin 31 → Dev nD :=
  ![⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩, ⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩, ⟨k0_dev46 d, k0_dev46_lt d⟩, ⟨k0_dev47 d, k0_dev47_lt d⟩, ⟨k0_dev48 d, k0_dev48_lt d⟩, ⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩, ⟨k0_dev61 d, k0_dev61_lt d⟩, ⟨k0_dev62 d, k0_dev62_lt d⟩]
def devX (d : Dev nD) : Fin 31 → Dev nD :=
  ![⟨k0_dev63 d, k0_dev63_lt d⟩, ⟨k0_dev64 d, k0_dev64_lt d⟩, ⟨k0_dev65 d, k0_dev65_lt d⟩, ⟨k0_dev66 d, k0_dev66_lt d⟩, ⟨k0_dev67 d, k0_dev67_lt d⟩, ⟨k0_dev68 d, k0_dev68_lt d⟩, ⟨k0_dev69 d, k0_dev69_lt d⟩, ⟨k0_dev70 d, k0_dev70_lt d⟩, ⟨k0_dev71 d, k0_dev71_lt d⟩, ⟨k0_dev72 d, k0_dev72_lt d⟩, ⟨k0_dev73 d, k0_dev73_lt d⟩, ⟨k0_dev74 d, k0_dev74_lt d⟩, ⟨k0_dev75 d, k0_dev75_lt d⟩, ⟨k0_dev76 d, k0_dev76_lt d⟩, ⟨k0_dev77 d, k0_dev77_lt d⟩, ⟨k0_dev78 d, k0_dev78_lt d⟩, ⟨k0_dev79 d, k0_dev79_lt d⟩, ⟨k0_dev80 d, k0_dev80_lt d⟩, ⟨k0_dev81 d, k0_dev81_lt d⟩, ⟨k0_dev82 d, k0_dev82_lt d⟩, ⟨k0_dev83 d, k0_dev83_lt d⟩, ⟨k0_dev84 d, k0_dev84_lt d⟩, ⟨k0_dev85 d, k0_dev85_lt d⟩, ⟨k0_dev86 d, k0_dev86_lt d⟩, ⟨k0_dev87 d, k0_dev87_lt d⟩, ⟨k0_dev88 d, k0_dev88_lt d⟩, ⟨k0_dev89 d, k0_dev89_lt d⟩, ⟨k0_dev90 d, k0_dev90_lt d⟩, ⟨k0_dev91 d, k0_dev91_lt d⟩, ⟨k0_dev92 d, k0_dev92_lt d⟩, ⟨k0_dev93 d, k0_dev93_lt d⟩]
def devP (d : Dev nD) : Fin 31 → Dev nD :=
  ![⟨k0_dev94 d, k0_dev94_lt d⟩, ⟨k0_dev95 d, k0_dev95_lt d⟩, ⟨k0_dev96 d, k0_dev96_lt d⟩, ⟨k0_dev97 d, k0_dev97_lt d⟩, ⟨k0_dev98 d, k0_dev98_lt d⟩, ⟨k0_dev99 d, k0_dev99_lt d⟩, ⟨k0_dev100 d, k0_dev100_lt d⟩, ⟨k0_dev101 d, k0_dev101_lt d⟩, ⟨k0_dev102 d, k0_dev102_lt d⟩, ⟨k0_dev103 d, k0_dev103_lt d⟩, ⟨k0_dev104 d, k0_dev104_lt d⟩, ⟨k0_dev105 d, k0_dev105_lt d⟩, ⟨k0_dev106 d, k0_dev106_lt d⟩, ⟨k0_dev107 d, k0_dev107_lt d⟩, ⟨k0_dev108 d, k0_dev108_lt d⟩, ⟨k0_dev109 d, k0_dev109_lt d⟩, ⟨k0_dev110 d, k0_dev110_lt d⟩, ⟨k0_dev111 d, k0_dev111_lt d⟩, ⟨k0_dev112 d, k0_dev112_lt d⟩, ⟨k0_dev113 d, k0_dev113_lt d⟩, ⟨k0_dev114 d, k0_dev114_lt d⟩, ⟨k0_dev115 d, k0_dev115_lt d⟩, ⟨k0_dev116 d, k0_dev116_lt d⟩, ⟨k0_dev117 d, k0_dev117_lt d⟩, ⟨k0_dev118 d, k0_dev118_lt d⟩, ⟨k0_dev119 d, k0_dev119_lt d⟩, ⟨k0_dev120 d, k0_dev120_lt d⟩, ⟨k0_dev121 d, k0_dev121_lt d⟩, ⟨k0_dev122 d, k0_dev122_lt d⟩, ⟨k0_dev123 d, k0_dev123_lt d⟩, ⟨k0_dev124 d, k0_dev124_lt d⟩]

/-- The device `j` places further round the mesh. -/
def fwd (c : Dev nD) (j : ℕ) : Dev nD := ⟨(c.val + j) % 32, Nat.mod_lt _ (by decide)⟩

theorem devS_eq : ∀ (c : Dev nD) (i : Fin 31), devS c i = fwd c (i.val + 1) := by decide +kernel
theorem devR_eq : ∀ (c : Dev nD) (i : Fin 31), devR c i = fwd c (i.val + 1) := by decide +kernel
theorem devX_eq : ∀ (c : Dev nD) (i : Fin 31), devX c i = fwd c (i.val + 1) := by decide +kernel
theorem devP_eq : ∀ (c : Dev nD) (i : Fin 31), devP c i = fwd c (31 - i.val) := by decide +kernel

abbrev PR (F : FTy → Type) [FloatOps F] := Prog (TpuEff nD τ sig (Elt F) Λ₀ .tc) PUnit

/-- `n` steps in order. -/
def seqFin : (n : ℕ) → (Fin n → PR F) → PR F
  | 0, _ => .ret ⟨⟩
  | n + 1, f => f 0 >>= fun _ => seqFin n (fun i => f i.succ)

/-- What one batch of 128 tokens makes of the router's rows, its tokens and the device's two experts. -/
def ffn (r : FVec F S64x512 .f32) (x : Vec F S8x16x512 .f32) (u0 : Vec F S1x512x1024 .bf16) (d0 : Vec F S1x1024x512 .bf16)
    (u1 : Vec F S1x512x1024 .bf16) (d1 : Vec F S1x1024x512 .bf16) : FVec F S8x16x512 .f32 :=
  let it : IVec S128x64 32 := iota .tc S128x64 32 [1] iota_S128x64_d1_w32
  k0_pay18 (k0_pay13 it (k0_pay6 r x) (k0_pay7 r x) (k0_pay8 r x) (k0_pay9 r x)) (k0_pay14 it (k0_pay6 r x) (k0_pay7 r x) (k0_pay8 r x) (k0_pay9 r x))
    (k0_pay15 (k0_pay4 x)) (k0_pay16 (F := F)) (k0_pay17 (k0_pay4 x) u0) d0 u1 d1

/-- The barrier semaphore. -/
abbrev barS : Sems sig S_ := SemArray.scalar (sig.barrier 0 rfl)

def sigOp (c : Dev nD) (i : Fin 31) : PR F := semSignalWord (devS c i) barS.sem 1#32
def sendROp (c : Dev nD) (i : Fin 31) : PR F :=
  Prog.lift (.enqueueDma rM (.remote (Dev.tc (devR c i)) (slotR rgM i.castSucc) (.dma (semAt cc0_scratch6 i.castSucc))) (.dma (semAt cc0_scratch7 i.castSucc))
    (Memref.isWhole_whole _).wordExact ((View.wordExact_bits rfl).reshape _ _) ⟨⟨rfl, Or.inl rfl⟩, trivial⟩)
def sendXOp (c : Dev nD) (i : Fin 31) : PR F :=
  Prog.lift (.enqueueDma xM (.remote (Dev.tc (devX c i)) (slotX xgM i.castSucc) (.dma (semAt cc0_scratch4 i.castSucc))) (.dma (semAt cc0_scratch5 i.castSucc))
    (Memref.isWhole_whole _).wordExact ((View.wordExact_bits rfl).reshape _ _) ⟨⟨rfl, Or.inl rfl⟩, trivial⟩)
def sendPOp (c : Dev nD) (i : Fin 31) : PR F :=
  Prog.lift (.enqueueDma (slotX paM i.castSucc) (.remote (Dev.tc (devP c i)) (slotX pbM i.castSucc) (.dma (semAt cc0_scratch8 i.castSucc))) (.dma (semAt cc0_scratch9 i.castSucc))
    ((View.wordExact_bits rfl).reshape _ _) ((View.wordExact_bits rfl).reshape _ _) ⟨⟨rfl, Or.inl rfl⟩, trivial⟩)

def waitROp (i : Fin 31) : PR F :=
  Prog.lift (.waitDma2 (semAt cc0_scratch7 i.castSucc) rM (slotR rgM i.castSucc) (Memref.isWhole_whole _).wordExact ((View.wordExact_bits rfl).reshape _ _))
def waitXOp (i : Fin 31) : PR F :=
  Prog.lift (.waitDma2 (semAt cc0_scratch5 i.castSucc) xM (slotX xgM i.castSucc) (Memref.isWhole_whole _).wordExact ((View.wordExact_bits rfl).reshape _ _))
def waitPOp (i : Fin 31) : PR F :=
  Prog.lift (.waitDma2 (semAt cc0_scratch9 i.castSucc) (slotX paM i.castSucc) (slotX pbM i.castSucc) ((View.wordExact_bits rfl).reshape _ _) ((View.wordExact_bits rfl).reshape _ _))
def doneROp (i : Fin 31) : PR F :=
  Prog.lift (.waitDma2 (semAt cc0_scratch6 i.castSucc) (slotR rgM i.castSucc) rM ((View.wordExact_bits rfl).reshape _ _) (Memref.isWhole_whole _).wordExact)
def doneXOp (i : Fin 31) : PR F :=
  Prog.lift (.waitDma2 (semAt cc0_scratch4 i.castSucc) (slotX xgM i.castSucc) xM ((View.wordExact_bits rfl).reshape _ _) (Memref.isWhole_whole _).wordExact)
def donePOp (i : Fin 31) : PR F :=
  Prog.lift (.waitDma2 (semAt cc0_scratch8 i.castSucc) (slotX pbM i.castSucc) (slotX paM i.castSucc) ((View.wordExact_bits rfl).reshape _ _) ((View.wordExact_bits rfl).reshape _ _))

/-- The device's own block into the last slot of either landing buffer. -/
def ownOp : PR F := do
  let v ← Prog.lift (.load xM rectX0.toLoadRect (View.loadsAt_vmem h_S16x512))
  let _ ← Prog.lift (.load xgM (rectX 31).toLoadRect (View.loadsAt_vmem h_S1x16x512))
  Prog.lift (.store xgM (rectX 31) (k0_pay1 v) Finset.univ (View.stores_vmem_bits_univ h_S1x16x512 rfl) (.inl rfl))
  let u ← Prog.lift (.load rM rectR0.toLoadRect (View.loadsAt_vmem h_S2x512))
  let _ ← Prog.lift (.load rgM (rectR 31).toLoadRect (View.loadsAt_vmem h_S1x2x512))
  Prog.lift (.store rgM (rectR 31) (k0_pay2 u) Finset.univ (View.stores_vmem_bits_univ h_S1x2x512 rfl) (.inl rfl))

/-- Batch `b`: eight slots' tokens through the two experts. -/
def batchOp (r : FVec F S64x512 .f32) (b : Fin 4) : PR F := do
  let x ← Prog.lift (.load xgM (rect8 b).toLoadRect (View.loadsAt_vmem h_S8x16x512))
  let u0 ← Prog.lift (.load w1M rectU0.toLoadRect (View.loadsAt_vmem h_S1x512x1024))
  let d0 ← Prog.lift (.load w2M rectD0.toLoadRect (View.loadsAt_vmem h_S1x1024x512))
  let u1 ← Prog.lift (.load w1M rectU1.toLoadRect (View.loadsAt_vmem h_S1x512x1024))
  let d1 ← Prog.lift (.load w2M rectD1.toLoadRect (View.loadsAt_vmem h_S1x1024x512))
  let _ ← Prog.lift (.load paM (rect8 b).toLoadRect (View.loadsAt_vmem h_S8x16x512))
  Prog.lift (.store paM (rect8 b) (ffn r x u0 d0 u1 d1) Finset.univ (View.stores_vmem_bits_univ h_S8x16x512 rfl) (.inl rfl))

/-- The device's own part, kept; and the sum of what landed. -/
def keepOp : PR F := do
  let v ← Prog.lift (.load paM (rectX 31).toLoadRect (View.loadsAt_vmem h_S1x16x512))
  let _ ← Prog.lift (.load pbM (rectX 31).toLoadRect (View.loadsAt_vmem h_S1x16x512))
  Prog.lift (.store pbM (rectX 31) (k0_pay65 v) Finset.univ (View.stores_vmem_bits_univ h_S1x16x512 rfl) (.inl rfl))
def sumOp : PR F := do
  let v ← Prog.lift (.load pbM rectXA.toLoadRect (View.loadsAt_vmem h_S32x16x512))
  let _ ← Prog.lift (.load oM rectX0.toLoadRect (View.loadsAt_vmem h_S16x512))
  Prog.lift (.store oM rectX0 (k0_pay66 v) Finset.univ (View.stores_vmem_bits_univ h_S16x512 rfl) (.inl rfl))

/-- Slot `8 b + i` of batch `b`, the own slot excluded. -/
def at8 (b n : ℕ) (h : 8 * b + n ≤ 31) (i : Fin n) : Fin 31 := ⟨8 * b + i.val, Nat.lt_of_lt_of_le (Nat.add_lt_add_left i.isLt _) h⟩

/-- Batch `b` whole: its tokens arrive, go through the experts, and the parts leave for their owners. -/
def roundOp (c : Dev nD) (r : FVec F S64x512 .f32) (b : Fin 4) (n : ℕ) (h : 8 * b.val + n ≤ 31) : PR F := do
  seqFin n fun i => waitXOp (at8 b n h i)
  batchOp r b
  seqFin n fun i => sendPOp c (at8 b n h i)

def model : PR F := do
  let c ← Prog.lift .deviceId
  seqFin 31 (sigOp c)
  semWaitWord barS.sem 31#32
  seqFin 31 (sendROp c)
  seqFin 31 (sendXOp c)
  ownOp
  seqFin 31 waitROp
  let r ← Prog.lift (.load rgM rectRA.toLoadRect (View.loadsAt_vmem h_S32x2x512))
  roundOp c (k0_pay3 r) 0 8 (by decide)
  roundOp c (k0_pay3 r) 1 8 (by decide)
  roundOp c (k0_pay3 r) 2 8 (by decide)
  roundOp c (k0_pay3 r) 3 7 (by decide)
  keepOp
  seqFin 31 waitPOp
  sumOp
  seqFin 31 doneROp
  seqFin 31 doneXOp
  seqFin 31 donePOp

set_option maxRecDepth 65536 in
set_option maxHeartbeats 0 in
theorem body_eq (t : Fin cfg0.N) : bodyAt0 (F := F) t = model := rfl

end Cert.KernelIdeal.Run

end
-- ==== Proof.Common.lean ====
/-
  The protocol of the 32 devices. Slot `q` of device `c`'s landing buffers takes the block of the device `q + 1` places
  back round the mesh; the last slot is the device's own. Per semaphore:

    barrier         31 units, unit `i` from the device `31 - i` places further round: it hands over the slots this device
                    will write there, and that the receive cells of those slots are open.
    kinds 1 and 3   token and router receive cells: one landing each, slot `q` at the sender's block.
    kinds 0 and 2   the senders' own cells: the source's share comes back.
    kind 5          result receive cells: slot `q` of the collected parts at what the sender computed for this device.
    kind 4          the senders' own cells of those: the part's slot comes back.
-/
module

public import proofs.«01_k».proof.Proof.Model
public import Idealize.ShloMosaic.Lib.Pipeline.Regions
public import Idealize.ShloMosaic.Lib.Pipeline.Kit
public import Idealize.ShloMosaic.Lib.Rounds
public import Idealize.ShloMosaic.Lib.Rounds.Family
public import Idealize.ShloMosaic.Lib.ShareLeaves
public import Idealize.ShloMosaic.Lib.StableHlo
public import Idealize.ShloMosaic.Lib.Tactic
public import Idealize.ShloMosaic.Lib.Pipeline.RegionTalk
public import Idealize.ShloMosaic.Lib.Pipeline.Launch
public import Idealize.ShloMosaic.Lib.ValueLayout

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F] [Named F]

abbrev UB := URounds (GSem nD τ sig) (Fin 31)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring of devices -/

theorem fwd_fwd (c : Dev nD) (a b : ℕ) : fwd (fwd c a) b = fwd c (a + b) :=
  Fin.ext (show ((c.val + a) % 32 + b) % 32 = (c.val + (a + b)) % 32 by omega)
theorem fwd_32 (c : Dev nD) : fwd c 32 = c :=
  Fin.ext (show (c.val + 32) % 32 = c.val by have h : c.val < 32 := c.isLt; omega)
theorem fwd_0 (c : Dev nD) : fwd c 0 = c :=
  Fin.ext (show (c.val + 0) % 32 = c.val by have h : c.val < 32 := c.isLt; omega)
theorem fwd_back (c : Dev nD) (a b : ℕ) (h : a + b = 32) : fwd (fwd c a) b = c := by rw [fwd_fwd, h, fwd_32]

/-! ## Cells -/

/-- Semaphore `q` of kind `k`: token send and receive, router send and receive, part send and receive. -/
def kcell (k : Fin 6) (q : Fin 32) : DmaSem sig := ⟨5 + 32 * k.val + q.val, by
  have hk := k.isLt; have hq := q.isLt; show 5 + 32 * k.val + q.val < 197; omega⟩
def kindOf (s : DmaSem sig) : ℕ := (s.val - 5) / 32
def slotOf (s : DmaSem sig) : Fin 32 := ⟨(s.val - 5) % 32, Nat.mod_lt _ (by decide)⟩

theorem kindOf_kcell (k : Fin 6) (q : Fin 32) : kindOf (kcell k q) = k.val := by
  have hq := q.isLt; show (5 + 32 * k.val + q.val - 5) / 32 = k.val; omega
theorem slotOf_kcell (k : Fin 6) (q : Fin 32) : slotOf (kcell k q) = q := by
  have hq := q.isLt; exact Fin.ext (show (5 + 32 * k.val + q.val - 5) % 32 = q.val by omega)

theorem semAt_4 : ∀ q, semAt cc0_scratch4 q = kcell 0 q := by decide +kernel
theorem semAt_5 : ∀ q, semAt cc0_scratch5 q = kcell 1 q := by decide +kernel
theorem semAt_6 : ∀ q, semAt cc0_scratch6 q = kcell 2 q := by decide +kernel
theorem semAt_7 : ∀ q, semAt cc0_scratch7 q = kcell 3 q := by decide +kernel
theorem semAt_8 : ∀ q, semAt cc0_scratch8 q = kcell 4 q := by decide +kernel
theorem semAt_9 : ∀ q, semAt cc0_scratch9 q = kcell 5 q := by decide +kernel

abbrev barCell (c : Dev nD) : GSem nD τ sig := ((c : Thread nD τ), .reg barS.sem)
abbrev dCell (c : Dev nD) (k : Fin 6) (q : Fin 32) : GSem nD τ sig := ((c : Thread nD τ), .dma (kcell k q))

/-! ## Contents -/

/-- What the devices' staged blocks hold. -/
structure Ins (F : FTy → Type) where
  x : Dev nD → S16x512.Idx → Elt F .f32
  r : Dev nD → S2x512.Idx → Elt F .f32
  u : Dev nD → S2x512x1024.Idx → Elt F .bf16
  d : Dev nD → S2x1024x512.Idx → Elt F .bf16

variable (v : Ins F)

/-- The gathered tokens, and the gathered router rows. -/
def XG (c : Dev nD) : S32x16x512.Idx → Elt F .f32 := fun i => v.x (fwd c (31 - (i 0).val)) (ix2 (i 1) (i 2))
def RG (c : Dev nD) : S32x2x512.Idx → Elt F .f32 := fun i => v.r (fwd c (31 - (i 0).val)) (ix2 (i 1) (i 2))

/-- Batch `b`'s parts. -/
def PAb (c : Dev nD) (b : Fin 4) : FVec F S8x16x512 .f32 :=
  ffn (k0_pay3 (rgM.view.readAt (Elt F) rectRA.toLoadRect (RG v c))) (xgM.view.readAt (Elt F) (rect8 b).toLoadRect (XG v c))
    (w1M.view.readAt (Elt F) rectU0.toLoadRect (v.u c)) (w2M.view.readAt (Elt F) rectD0.toLoadRect (v.d c))
    (w1M.view.readAt (Elt F) rectU1.toLoadRect (v.u c)) (w2M.view.readAt (Elt F) rectD1.toLoadRect (v.d c))

def batchOf (q : Fin 32) : Fin 4 := ⟨q.val / 8, by have := q.isLt; omega⟩

/-- The parts device `c` computes for every device's tokens, and the parts it collects. -/
def PA (c : Dev nD) : S32x16x512.Idx → Elt F .f32 := fun i =>
  PAb v c (batchOf (i 0)) (ix3 (⟨(i 0).val % 8, Nat.mod_lt _ (by decide)⟩ : Fin 8) (i 1) (i 2))
def PB (c : Dev nD) : S32x16x512.Idx → Elt F .f32 := fun i => PA v (fwd c ((i 0).val + 1)) i
/-- The result. -/
def OUT (c : Dev nD) : FVec F S16x512 .f32 := k0_pay66 (pbM.view.readAt (Elt F) rectXA.toLoadRect (PB v c))

/-! ## Points-to of slots and blocks -/

abbrev xgPts (c : Dev nD) (q : Fin 32) (f : S32x16x512.Idx → Elt F .f32) : sProp 𝕄 :=
  ((c : Thread nD τ).loc cc0_scratch0) ↦[(rectX q).set]{fullShare} f
abbrev rgPts (c : Dev nD) (q : Fin 32) (f : S32x2x512.Idx → Elt F .f32) : sProp 𝕄 :=
  ((c : Thread nD τ).loc cc0_scratch1) ↦[(rectR q).set]{fullShare} f
abbrev paPts (c : Dev nD) (q : Fin 32) (f : S32x16x512.Idx → Elt F .f32) : sProp 𝕄 :=
  ((c : Thread nD τ).loc cc0_scratch2) ↦[(rectX q).set]{fullShare} f
abbrev pbPts (c : Dev nD) (q : Fin 32) (f : S32x16x512.Idx → Elt F .f32) : sProp 𝕄 :=
  ((c : Thread nD τ).loc cc0_scratch3) ↦[(rectX q).set]{fullShare} f
/-- Share `q` of 32 of the staged tokens and of the staged router rows. -/
abbrev xPts (c : Dev nD) (q : Fin 32) : sProp 𝕄 :=
  ((c : Thread nD τ).loc cc0_stg0_0) ↦{ShareLeaves.leaf 5 fullShare q} v.x c
abbrev rPts (c : Dev nD) (q : Fin 32) : sProp 𝕄 :=
  ((c : Thread nD τ).loc cc0_stg1_0) ↦{ShareLeaves.leaf 5 fullShare q} v.r c

/-! ## The schedule -/

abbrev NX : ℕ := (slotX xgM 0).view.dmaCredit
abbrev NR : ℕ := (slotR rgM 0).view.dmaCredit

/-- What the device `31 - i` places further round pays with its barrier unit. -/
def barPay (c : Dev nD) (i : Fin 31) : sProp 𝕄 :=
  iprop((∃ f, xgPts (fwd c (31 - i.val)) i.rev.castSucc f) ∗ (∃ f, rgPts (fwd c (31 - i.val)) i.rev.castSucc f)
    ∗ (∃ f, pbPts (fwd c (31 - i.val)) i.castSucc f)
    ∗ reached ER (dCell (fwd c (31 - i.val)) 1 i.rev.castSucc) 0 ∗ reached ER (dCell (fwd c (31 - i.val)) 3 i.rev.castSucc) 0
    ∗ reached ER (dCell (fwd c (31 - i.val)) 5 i.castSucc) 0)

/-- What the landing on kind `k`'s semaphore `q` hands over. -/
def dmaPay (c : Dev nD) (k : ℕ) (q : Fin 32) : sProp 𝕄 :=
  match k with
  | 0 => xPts v c q
  | 1 => xgPts c q (XG v c)
  | 2 => rPts v c q
  | 3 => rgPts c q (RG v c)
  | 4 => paPts c q (PA v c)
  | _ => pbPts c q (PB v c)

def dutiesOf (s : SemLoc sig) : Finset (Fin 31) :=
  match s with
  | .reg s => if s = barS.sem then Finset.univ else ∅
  | .dma s => if 5 ≤ s.val ∧ slotOf s ≠ 31 then {0} else ∅
def amountOf' (s : SemLoc sig) : ℕ :=
  match s with
  | .reg _ => 1
  | .dma s => if kindOf s = 2 ∨ kindOf s = 3 then NR else NX
def payOf (c : Dev nD) (s : SemLoc sig) (i : Fin 31) : sProp 𝕄 :=
  match s with
  | .reg _ => barPay c i
  | .dma s => dmaPay v c (kindOf s) (slotOf s)

theorem NX_pos : 0 < NX := View.dmaCredit_pos _ (by decide +kernel)
theorem NR_pos : 0 < NR := View.dmaCredit_pos _ (by decide +kernel)
theorem amountOf_pos (s : SemLoc sig) : 0 < amountOf' s := by
  unfold amountOf'; split
  · exact Nat.one_pos
  · split
    · exact NR_pos
    · exact NX_pos

def Rd : Rounds.Schedule (GSem nD τ sig) (Fin 31) 𝕄 where
  duties g r := if r = 0 ∧ g.1.2 = .tc then dutiesOf g.2 else ∅
  unitless _ := False
  amount g _ _ := amountOf' g.2
  payload g _ i := payOf v g.1.1 g.2 i
  amount_pos g _ _ _ := amountOf_pos g.2

instance Rd_storable (g : GSem nD τ sig) (r : ℕ) (d : Fin 31) : BI.Storable (upEmb : UEmb _ 𝕄) ((Rd v).payload g r d) := by
  show BI.Storable upEmb (payOf v g.1.1 g.2 d)
  unfold payOf; split
  · unfold barPay; infer_instance
  · unfold dmaPay; split <;> infer_instance

section Sched

theorem castSucc_ne (i : Fin 31) : (i.castSucc : Fin 32) ≠ 31 := fun h => by
  have := congrArg Fin.val h; have hi := i.isLt; simp at this; omega

theorem duties_bar (c : Dev nD) : (Rd v).duties (barCell c) 0 = Finset.univ := by
  rw [show (Rd v).duties (barCell c) 0 = dutiesOf (.reg barS.sem) from by dsimp only [Rd]; exact if_pos ⟨rfl, rfl⟩]; unfold dutiesOf; simp
theorem duties_d (c : Dev nD) (k : Fin 6) (i : Fin 31) : (Rd v).duties (dCell c k i.castSucc) 0 = {0} := by
  rw [show (Rd v).duties (dCell c k i.castSucc) 0 = dutiesOf (.dma (kcell k i.castSucc)) from by dsimp only [Rd]; exact if_pos ⟨rfl, rfl⟩]
  refine if_pos ⟨?_, ?_⟩
  · show 5 ≤ 5 + 32 * k.val + i.val; omega
  · rw [slotOf_kcell]; exact castSucc_ne i
theorem duties_last (c : Dev nD) (k : Fin 6) (r : ℕ) : (Rd v).duties (dCell c k 31) r = ∅ := by
  show (if r = 0 ∧ (c : Thread nD τ).2 = .tc then dutiesOf (.dma (kcell k 31)) else ∅) = _
  split
  · refine if_neg fun h => h.2 ?_
    rw [slotOf_kcell]
  · rfl
theorem duties_later (g : GSem nD τ sig) : ∀ r, 1 ≤ r → (Rd v).duties g r = ∅ :=
  fun r hr => if_neg (fun h => by omega)

theorem amount_bar (c : Dev nD) (r : ℕ) (i : Fin 31) : (Rd v).amount (barCell c) r i = 1 := rfl
def kAmt (k : Fin 6) : ℕ := if k.val = 2 ∨ k.val = 3 then NR else NX
theorem amount_d (c : Dev nD) (k : Fin 6) (q : Fin 32) (r : ℕ) (i : Fin 31) : (Rd v).amount (dCell c k q) r i = kAmt k := by
  show (if kindOf _ = 2 ∨ kindOf _ = 3 then NR else NX) = _
  rw [kindOf_kcell]; rfl

theorem expect_bar (c : Dev nD) : (Rd v).expect (barCell c) 0 = 31 := by
  unfold Schedule.expect Schedule.amountOf; rw [duties_bar]; simp only [amount_bar]; rfl
theorem expect_d (c : Dev nD) (k : Fin 6) (i : Fin 31) : (Rd v).expect (dCell c k i.castSucc) 0 = kAmt k := by
  unfold Schedule.expect Schedule.amountOf; rw [duties_d, Finset.sum_singleton, amount_d]

theorem payload_bar (c : Dev nD) (r : ℕ) (i : Fin 31) : (Rd v).payload (barCell c) r i = barPay c i := rfl
theorem payload_d (c : Dev nD) (k : Fin 6) (q : Fin 32) (r : ℕ) (i : Fin 31) :
    (Rd v).payload (dCell c k q) r i = dmaPay v c k.val q := by
  show dmaPay v c (kindOf _) (slotOf _) = _
  rw [kindOf_kcell, slotOf_kcell]

theorem rest_bar (c : Dev nD) : bigSep ((Rd v).duties (barCell c) 0 \ ∅) (fun i => (Rd v).payload (barCell c) 0 i)
    = bigSep Finset.univ fun i => barPay c i := by
  rw [Finset.sdiff_empty, duties_bar]; rfl
theorem rest_d (c : Dev nD) (k : Fin 6) (i : Fin 31) :
    bigSep ((Rd v).duties (dCell c k i.castSucc) 0 \ ∅) (fun u => (Rd v).payload (dCell c k i.castSucc) 0 u)
      = dmaPay v c k.val i.castSucc := by
  rw [Finset.sdiff_empty, duties_d, bigSep_singleton, payload_d]

end Sched

/-! ## Levels, and what each core owes at launch -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier cells at 1, the gathers' receive cells at 2, the parts' at 3, the rest at 0. -/
def lvS (s : SemLoc sig) : ℕ :=
  match s with
  | .reg _ => 1
  | .dma s => if 5 ≤ s.val then (if kindOf s = 1 ∨ kindOf s = 3 then 2 else if kindOf s = 5 then 3 else 0) else 0
def lv (g : GSem nD τ sig) (_ : Unit) : ℕ := lvS g.2
def kLv (k : Fin 6) : ℕ := if k.val = 1 ∨ k.val = 3 then 2 else if k.val = 5 then 3 else 0
theorem lv_d (c : Dev nD) (k : Fin 6) (q : Fin 32) (u : Unit) : lv (dCell c k q) u = kLv k := by
  show (if _ then _ else _) = _
  rw [if_pos (show 5 ≤ (kcell k q).val from show 5 ≤ 5 + 32 * k.val + q.val by omega), kindOf_kcell]; rfl
theorem lv_bar (c : Dev nD) (u : Unit) : lv (barCell c) u = 1 := rfl

/-- The units of one sweep: what device `c`'s operation `i` of that sweep pays elsewhere. -/
def tSig (c : Dev nD) (i : Fin 31) : CellTallies nD τ sig Unit := tallyAt (barCell (fwd c (i.val + 1))) () 1
def tR (c : Dev nD) (i : Fin 31) : CellTallies nD τ sig Unit := tallyAt (dCell (fwd c (i.val + 1)) 3 i.castSucc) () NR
def tX (c : Dev nD) (i : Fin 31) : CellTallies nD τ sig Unit := tallyAt (dCell (fwd c (i.val + 1)) 1 i.castSucc) () NX
def tP (c : Dev nD) (i : Fin 31) : CellTallies nD τ sig Unit := tallyAt (dCell (fwd c (31 - i.val)) 5 i.castSucc) () NX

/-- What is left of a sweep before its operation `n`. -/
def left (t : Fin 31 → CellTallies nD τ sig Unit) (n : ℕ) : CellTallies nD τ sig Unit :=
  ∑ i : Fin 31, if n ≤ i.val then t i else 0
theorem left_step (t : Fin 31 → CellTallies nD τ sig Unit) (i : Fin 31) : left t i.val = left t (i.val + 1) + t i := by
  unfold left
  rw [← Finset.add_sum_erase _ _ (Finset.mem_univ i), if_pos le_rfl, add_comm,
    ← Finset.add_sum_erase (a := i) Finset.univ (fun j : Fin 31 => if i.val + 1 ≤ j.val then t j else 0) (Finset.mem_univ i),
    if_neg (by omega), zero_add]
  congr 1
  refine Finset.sum_congr rfl fun j hj => ?_
  have hne : j.val ≠ i.val := fun h => (Finset.mem_erase.mp hj).1 (Fin.ext h)
  by_cases h : i.val ≤ j.val
  · rw [if_pos h, if_pos (by omega)]
  · rw [if_neg h, if_neg (by omega)]
theorem left_31 (t : Fin 31 → CellTallies nD τ sig Unit) : left t 31 = 0 :=
  Finset.sum_eq_zero fun i _ => if_neg (by have := i.isLt; omega)
theorem left_0 (t : Fin 31 → CellTallies nD τ sig Unit) : left t 0 = ∑ i : Fin 31, t i :=
  Finset.sum_congr rfl fun i _ => if_pos (Nat.zero_le _)

/-- At launch: everything. -/
def O₀ (c : Dev nD) : CellTallies nD τ sig Unit := left (tP c) 0 + left (tX c) 0 + left (tR c) 0 + left (tSig c) 0

end Cert.KernelIdeal.Run

end
-- ==== Proof.Steps.lean ====
/-
  One lemma per operation of the kernel's sweeps, at a device and a slot not named, and the rule that runs a sweep.
-/
module

public import proofs.«01_k».proof.Proof.Common

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F] [Named F]
local notation "𝕄" => MT nD τ sig Unit (Elt F) ℕ UU ℕ

/-- The weakest precondition of a piece of the body on device `c`. -/
abbrev WP (c : Dev nD) (p : PR F) (K : PUnit → sProp 𝕄) : sProp 𝕄 :=
  wp frame (wpE (defs₀ (F := F)) 𝒱₀ (c : Thread nD τ) none) Set.univ p K

theorem bigSep_head (n : ℕ) (Φ : Fin (n + 1) → sProp 𝕄) :
    bigSep Finset.univ Φ = iprop(Φ 0 ∗ bigSep Finset.univ fun i : Fin n => Φ i.succ) := by
  rw [Fin.univ_succ, Finset.cons_eq_insert, BI.bigSep_insert (by simp), BI.bigSep_map]; rfl
theorem bigSep_last (n : ℕ) (Φ : Fin (n + 1) → sProp 𝕄) :
    bigSep Finset.univ Φ = iprop(Φ (Fin.last n) ∗ bigSep Finset.univ fun i : Fin n => Φ i.castSucc) := by
  rw [Fin.univ_castSuccEmb, Finset.cons_eq_insert, BI.bigSep_insert (by simp [Fin.castSucc_ne_last]), BI.bigSep_map]; rfl

/-- A sweep: each step takes its own share and the running state. -/
theorem seqFin_wp (c : Dev nD) (R : sProp 𝕄) [BI.Persistent R] : ∀ (n : ℕ) (f : Fin n → PR F) (S : ℕ → sProp 𝕄) (Pre Post : Fin n → sProp 𝕄)
    (_ : ∀ (i : Fin n) (K : PUnit → sProp 𝕄), iprop(R ∗ S i.val ∗ Pre i ∗ (iprop(S (i.val + 1) ∗ Post i) -∗ K ⟨⟩)) ⊢ WP c (f i) K)
    (K : PUnit → sProp 𝕄),
    iprop(R ∗ S 0 ∗ bigSep Finset.univ Pre ∗ (iprop(S n ∗ bigSep Finset.univ Post) -∗ K ⟨⟩)) ⊢ WP c (seqFin n f) K
  | 0, f, S, Pre, Post, h, K => by
    unfold WP seqFin
    rw [wp_ret]
    iintro ⟨-, HS, -, HK⟩
    imodintro
    iapply HK
    isplitl [HS]; · iexact HS
    rw [Finset.univ_eq_empty, bigSep_empty]; iempintro
  | n + 1, f, S, Pre, Post, h, K => by
    show _ ⊢ wp _ _ _ (f 0 >>= fun _ => seqFin n (fun i => f i.succ)) _
    rw [wp_bind, bigSep_head n Pre, bigSep_head n Post]
    iintro ⟨#HR, HS, ⟨HP0, HP⟩, HK⟩
    have h0 : ∀ K : PUnit → sProp 𝕄, iprop(R ∗ S 0 ∗ Pre 0 ∗ (iprop(S (0 + 1) ∗ Post 0) -∗ K ⟨⟩)) ⊢ WP c (f 0) K := fun K => h 0 K
    iapply (h0 _) $$ [HS HP0 HP HK]
    isplitr; · iexact HR
    isplitl [HS]; · iexact HS
    isplitl [HP0]; · iexact HP0
    iintro ⟨HS, HQ0⟩
    iapply (seqFin_wp c R n (fun i => f i.succ) (fun k => S (k + 1)) (fun i => Pre i.succ) (fun i => Post i.succ) (fun i K => h i.succ K) K) $$ [HS HP HK HQ0]
    isplitr; · iexact HR
    isplitl [HS]; · iexact HS
    isplitl [HP]; · iexact HP
    iintro ⟨HS, HQ⟩
    iapply HK
    isplitl [HS]; · iexact HS
    isplitl [HQ0]; · iexact HQ0
    iexact HQ

/-! ## What every step may use -/

abbrev CI : Type := Dev nD × (Unit ⊕ Fin 6 × Fin 32)
def cellI : CI → GSem nD τ sig
  | (c, .inl _) => barCell c
  | (c, .inr (k, q)) => dCell c k q

variable (v : Ins F) (N : GSem nD τ sig → ℕ)

/-- The cells' invariants. -/
def recs : sProp 𝕄 := bigSep Finset.univ fun p : CI => cellInv ER (Rd v) (N (cellI p)) (cellI p)
/-- With the levels, the barriers' open rounds and the own cells' open rounds. -/
def know (c : Dev nD) : sProp 𝕄 :=
  iprop(recs v N ∗ levAts L lv ∗ (bigSep Finset.univ fun d : Dev nD => reached ER (barCell d) 0)
    ∗ bigSep Finset.univ fun p : Fin 6 × Fin 32 => reached ER (dCell c p.1 p.2) 0)

instance recs_persistent : BI.Persistent (recs v N : sProp 𝕄) := by unfold recs; infer_instance
instance know_persistent (c : Dev nD) : BI.Persistent (know v N c : sProp 𝕄) := by unfold know; infer_instance

theorem know_recs (c : Dev nD) : know v N c ⊢ (recs v N : sProp 𝕄) := by
  unfold know
  iintro ⟨H, -, -, -⟩
  iexact H
theorem know_d (c d : Dev nD) (k : Fin 6) (q : Fin 32) : know v N c ⊢ cellInv ER (Rd v) (N (dCell d k q)) (dCell d k q) :=
  (know_recs v N c).trans (bigSep_elim (Φ := fun p : CI => cellInv ER (Rd v) (N (cellI p)) (cellI p)) (Finset.mem_univ ((d, .inr (k, q)) : CI)))
theorem know_bar (c d : Dev nD) : know v N c ⊢ cellInv ER (Rd v) (N (barCell d)) (barCell d) :=
  (know_recs v N c).trans (bigSep_elim (Φ := fun p : CI => cellInv ER (Rd v) (N (cellI p)) (cellI p)) (Finset.mem_univ ((d, .inl ()) : CI)))
theorem know_lev (c : Dev nD) : know v N c ⊢ (levAts L lv : sProp 𝕄) := by
  unfold know
  iintro ⟨-, H, -, -⟩
  iexact H
theorem know_rbars (c : Dev nD) : know v N c ⊢ (bigSep Finset.univ fun d : Dev nD => reached ER (barCell d) 0 : sProp 𝕄) := by
  unfold know
  iintro ⟨-, -, H, -⟩
  iexact H
theorem know_rds (c : Dev nD) : know v N c ⊢ (bigSep Finset.univ fun p : Fin 6 × Fin 32 => reached ER (dCell c p.1 p.2) 0 : sProp 𝕄) := by
  unfold know
  iintro ⟨-, -, -, H⟩
  iexact H
theorem know_rbar (c d : Dev nD) : know v N c ⊢ reached ER (barCell d) 0 :=
  (know_rbars v N c).trans (bigSep_elim (Φ := fun d : Dev nD => (reached ER (barCell d) 0 : sProp 𝕄)) (Finset.mem_univ d))
theorem know_rd (c : Dev nD) (k : Fin 6) (q : Fin 32) : know v N c ⊢ reached ER (dCell c k q) 0 :=
  (know_rds v N c).trans (bigSep_elim (Φ := fun p : Fin 6 × Fin 32 => (reached ER (dCell c p.1 p.2) 0 : sProp 𝕄)) (Finset.mem_univ (k, q)))

/-- The core owes `O`. -/
def owing (c : Dev nD) (O : CellTallies nD τ sig Unit) : sProp 𝕄 := iprop(∃ W, owes (c : Thread nD τ) O W)

theorem may_wait (c : Dev nD) (sm : SemLoc sig) (b : ℕ) (O : CellTallies nD τ sig Unit) (hb : lvS sm ≤ b)
    (hO : ∀ (g : GSem nD τ sig) (u : Unit), 0 < O g u → u ∈ L g ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u h => (hO g u h).1) (fun p hp => by rw [Finset.mem_singleton.mp hp]; exact hb) (fun g u h => (hO g u h).2)

/-! ## The barrier -/

def sigPre (c : Dev nD) (i : Fin 31) : sProp 𝕄 :=
  iprop(dutyTok ER (barCell (fwd c (i.val + 1))) 0 i ∗ (∃ f, xgPts c i.rev.castSucc f) ∗ (∃ f, rgPts c i.rev.castSucc f) ∗ (∃ f, pbPts c i.castSucc f))

theorem sig_step (c : Dev nD) (B : CellTallies nD τ sig Unit) (i : Fin 31) (K : PUnit → sProp 𝕄) :
    iprop(know v N c ∗ owing c (B + left (tSig c) i.val) ∗ sigPre c i ∗ (iprop(owing c (B + left (tSig c) (i.val + 1)) ∗ emp) -∗ K ⟨⟩))
      ⊢ WP c (sigOp c i) K := by
  unfold sigOp semSignalWord owing sigPre
  rw [devS_eq]
  iintro ⟨#HR, ⟨%W, HO⟩, ⟨Ht, Hx, Hr, Hp⟩, HK⟩
  ihave #HI := (know_bar v N c (fwd c (i.val + 1))) $$ HR
  ihave #Hb := (know_rbar v N c (fwd c (i.val + 1))) $$ HR
  ihave #H1 := (know_rd v N c 1 i.rev.castSucc) $$ HR
  ihave #H3 := (know_rd v N c 3 i.rev.castSucc) $$ HR
  ihave #H5 := (know_rd v N c 5 i.castSucc) $$ HR
  iapply (Rounds.wp_signal 𝒱₀ ER (Rd v) (c : Thread nD τ) none (dst := (fwd c (i.val + 1) : Thread nD τ)) (sem := barS.sem) (r := 0) (d := i)
      (κ := N (barCell (fwd c (i.val + 1))))
      (by rw [duties_bar]; exact Finset.mem_univ _) (amount_bar v (fwd c (i.val + 1)) 0 i) () (O₀ := B + left (tSig c) i.val) (B + left (tSig c) (i.val + 1))
      (by rw [left_step, ← add_assoc]; rfl))
    $$ [HO Ht Hx Hr Hp]
  · isplitr; · iexact HI
    isplitl [HO]; · iexact HO
    isplitl [Ht]; · iexact Ht
    isplitl [Hx Hr Hp]
    · rw [payload_bar]; unfold barPay; rw [fwd_back c _ _ (by have := i.isLt; omega)]
      isplitl [Hx]; · iexact Hx
      isplitl [Hr]; · iexact Hr
      isplitl [Hp]; · iexact Hp
      isplitr; · iexact H1
      isplitr; · iexact H3
      iexact H5
    · iexact Hb
  iintro HO
  rw [wp_ret]
  imodintro
  iapply HK
  isplitl [HO]
  · iexists W; iexact HO
  iempintro

set_option maxRecDepth 20000 in
theorem bar_step (c : Dev nD) (O : CellTallies nD τ sig Unit) (hO : ∀ (g : GSem nD τ sig) (u : Unit), 0 < O g u → u ∈ L g ∧ 1 < lv g u)
    (K : PUnit → sProp 𝕄) :
    iprop(know v N c ∗ owing c O ∗ (cred (tallyAt (barCell c) () 31) ∗ atPos ER (barCell c) 0 ∅ 0)
        ∗ (iprop(owing c O ∗ atPos ER (barCell c) 1 ∅ 0 ∗ bigSep Finset.univ fun i => barPay c i) -∗ K ⟨⟩))
      ⊢ WP c (semWaitWord barS.sem 31#32) K := by
  unfold semWaitWord owing
  iintro ⟨#HR, ⟨%W, HO⟩, ⟨Hc, Ha⟩, HK⟩
  ihave #HI := (know_bar v N c c) $$ HR
  iapply (Rounds.wp_wait_rest_token 𝒱₀ ER (Rd v) (c : Thread nD τ) none (κ := N (barCell c))
      (wpE_semWait_eq 𝒱₀ (c : Thread nD τ) none Set.univ) (Set.mem_univ _) () (O := O) (W := W) (R := 0) (m := 0) (T := ∅)
      ((Nat.zero_add 31).trans (expect_bar v c).symm)) $$ [Hc HO Ha]
  · isplitr; · iexact HI
    isplitl [Hc]; · iexact Hc
    isplitl [HO]; · iexact HO
    isplitr; · iapply ((know_lev v N c).trans (may_wait c (.reg barS.sem) 1 O le_rfl hO)); iexact HR
    iexact Ha
  iintro ⟨HO, Ha, -, Hpay⟩
  ihave Hp := (Entails.of_eq (rest_bar v c)) $$ Hpay
  rw [wp_ret]
  imodintro
  iapply HK
  isplitl [HO]
  · iexists _; iexact HO
  isplitl [Ha]; · iexact Ha
  iexact Hp

/-! ## The waits on landings -/

def waitPre (c : Dev nD) (k : Fin 6) (i : Fin 31) : sProp 𝕄 :=
  iprop(cred (tallyAt (dCell c k i.castSucc) () (kAmt k)) ∗ atPos ER (dCell c k i.castSucc) 0 ∅ 0)
def waitPost (c : Dev nD) (k : Fin 6) (i : Fin 31) : sProp 𝕄 :=
  iprop(atPos ER (dCell c k i.castSucc) 1 ∅ 0 ∗ dmaPay v c k.val i.castSucc)

set_option maxRecDepth 20000 in
theorem wait_step (c : Dev nD) (k : Fin 6) (i : Fin 31) (w : TpuEff nD τ sig (Elt F) Λ₀ .tc PUnit)
    (hw : ∀ K : PUnit → sProp 𝕄, wpE (defs₀ (F := F)) 𝒱₀ (c : Thread nD τ) none Set.univ w K
      = waitSpec (c : Thread nD τ) Set.univ (.dma (kcell k i.castSucc)) (kAmt k) K)
    (O : CellTallies nD τ sig Unit) (hO : ∀ (g : GSem nD τ sig) (u : Unit), 0 < O g u → u ∈ L g ∧ kLv k < lv g u)
    (K : PUnit → sProp 𝕄) :
    iprop(know v N c ∗ owing c O ∗ waitPre c k i ∗ (iprop(owing c O ∗ waitPost v c k i) -∗ K ⟨⟩)) ⊢ WP c (Prog.lift w) K := by
  unfold owing waitPre waitPost
  show _ ⊢ WP c (.op w .ret) K
  iintro ⟨#HR, ⟨%W, HO⟩, ⟨Hc, Ha⟩, HK⟩
  ihave #HI := (know_d v N c c k i.castSucc) $$ HR
  iapply (Rounds.wp_wait_rest_token 𝒱₀ ER (Rd v) (c : Thread nD τ) none (κ := N (dCell c k i.castSucc))
      hw (Set.mem_univ _) () (O := O) (W := W) (R := 0) (m := 0) (T := ∅)
      ((Nat.zero_add _).trans (expect_d v c k i).symm)) $$ [Hc HO Ha]
  · isplitr; · iexact HI
    isplitl [Hc]; · iexact Hc
    isplitl [HO]; · iexact HO
    isplitr
    · iapply ((know_lev v N c).trans (may_wait c (.dma (kcell k i.castSucc)) (kLv k) O (le_of_eq (lv_d c k i.castSucc ())) hO)); iexact HR
    iexact Ha
  iintro ⟨HO, Ha, -, Hpay⟩
  ihave Hp := (Entails.of_eq (rest_d v c k i)) $$ Hpay
  rw [wp_ret]
  imodintro
  iapply HK
  isplitl [HO]
  · iexists _; iexact HO
  isplitl [Ha]; · iexact Ha
  iexact Hp

theorem wait_eq (c : Dev nD) (k : Fin 6) (i : Fin 31) {sp sp' : Space} {s s' : Shape} {e e' : EltTy} {sem : DmaSem sig}
    {src : Memref sig .tc sp' s' e'} {dst : Memref sig .tc sp s e} {hsrc : src.view.WordExact} {hdst : dst.view.WordExact}
    (hs : sem = kcell k i.castSucc) (hd : dst.view.dmaCredit = kAmt k) (K : PUnit → sProp 𝕄) :
    wpE (defs₀ (F := F)) 𝒱₀ (c : Thread nD τ) none Set.univ (.waitDma2 sem src dst hsrc hdst) K
      = waitSpec (c : Thread nD τ) Set.univ (.dma (kcell k i.castSucc)) (kAmt k) K := by
  subst hs; rw [← hd]; exact wpE_waitDma2_eq 𝒱₀ (c : Thread nD τ) none Set.univ K

theorem waitR_step (c : Dev nD) (O : CellTallies nD τ sig Unit) (hO : ∀ (g : GSem nD τ sig) (u : Unit), 0 < O g u → u ∈ L g ∧ kLv 3 < lv g u)
    (i : Fin 31) (K : PUnit → sProp 𝕄) :
    iprop(know v N c ∗ owing c O ∗ waitPre c 3 i ∗ (iprop(owing c O ∗ waitPost v c 3 i) -∗ K ⟨⟩)) ⊢ WP c (waitROp i) K := by
  unfold waitROp
  refine wait_step v N c 3 i _ ?_ O hO K
  intro K
  refine wait_eq c 3 i (semAt_7 _) ?_ K
  rfl
theorem waitX_step (c : Dev nD) (O : CellTallies nD τ sig Unit) (hO : ∀ (g : GSem nD τ sig) (u : Unit), 0 < O g u → u ∈ L g ∧ kLv 1 < lv g u)
    (i : Fin 31) (K : PUnit → sProp 𝕄) :
    iprop(know v N c ∗ owing c O ∗ waitPre c 1 i ∗ (iprop(owing c O ∗ waitPost v c 1 i) -∗ K ⟨⟩)) ⊢ WP c (waitXOp i) K := by
  unfold waitXOp
  refine wait_step v N c 1 i _ ?_ O hO K
  intro K
  refine wait_eq c 1 i (semAt_5 _) ?_ K
  rfl
theorem waitP_step (c : Dev nD) (O : CellTallies nD τ sig Unit) (hO : ∀ (g : GSem nD τ sig) (u : Unit), 0 < O g u → u ∈ L g ∧ kLv 5 < lv g u)
    (i : Fin 31) (K : PUnit → sProp 𝕄) :
    iprop(know v N c ∗ owing c O ∗ waitPre c 5 i ∗ (iprop(owing c O ∗ waitPost v c 5 i) -∗ K ⟨⟩)) ⊢ WP c (waitPOp i) K := by
  unfold waitPOp
  refine wait_step v N c 5 i _ ?_ O hO K
  intro K
  refine wait_eq c 5 i (semAt_9 _) ?_ K
  rfl
theorem doneR_step (c : Dev nD) (O : CellTallies nD τ sig Unit) (hO : ∀ (g : GSem nD τ sig) (u : Unit), 0 < O g u → u ∈ L g ∧ kLv 2 < lv g u)
    (i : Fin 31) (K : PUnit → sProp 𝕄) :
    iprop(know v N c ∗ owing c O ∗ waitPre c 2 i ∗ (iprop(owing c O ∗ waitPost v c 2 i) -∗ K ⟨⟩)) ⊢ WP c (doneROp i) K := by
  unfold doneROp
  refine wait_step v N c 2 i _ ?_ O hO K
  intro K
  refine wait_eq c 2 i (semAt_6 _) ?_ K
  rfl
theorem doneX_step (c : Dev nD) (O : CellTallies nD τ sig Unit) (hO : ∀ (g : GSem nD τ sig) (u : Unit), 0 < O g u → u ∈ L g ∧ kLv 0 < lv g u)
    (i : Fin 31) (K : PUnit → sProp 𝕄) :
    iprop(know v N c ∗ owing c O ∗ waitPre c 0 i ∗ (iprop(owing c O ∗ waitPost v c 0 i) -∗ K ⟨⟩)) ⊢ WP c (doneXOp i) K := by
  unfold doneXOp
  refine wait_step v N c 0 i _ ?_ O hO K
  intro K
  refine wait_eq c 0 i (semAt_4 _) ?_ K
  rfl
theorem doneP_step (c : Dev nD) (O : CellTallies nD τ sig Unit) (hO : ∀ (g : GSem nD τ sig) (u : Unit), 0 < O g u → u ∈ L g ∧ kLv 4 < lv g u)
    (i : Fin 31) (K : PUnit → sProp 𝕄) :
    iprop(know v N c ∗ owing c O ∗ waitPre c 4 i ∗ (iprop(owing c O ∗ waitPost v c 4 i) -∗ K ⟨⟩)) ⊢ WP c (donePOp i) K := by
  unfold donePOp
  refine wait_step v N c 4 i _ ?_ O hO K
  intro K
  refine wait_eq c 4 i (semAt_8 _) ?_ K
  rfl
/-! ## The transfers -/

theorem send_step (c d : Dev nD) (kS kD : Fin 6) (i : Fin 31) {sp sp' : Space} {s : Shape} {e : EltTy} {d' : Dev nD} {sS sD : DmaSem sig}
    {src : Memref sig .tc sp s e} {dst : Memref sig .tc sp' s e}
    {hsrc : src.view.WordExact} {hdst : dst.view.WordExact}
    {hsem : DmaTarget.Typed (nD := nD) (τ := τ) (p := .tc) sp (.dma sD) (.remote (Dev.tc d') dst (.dma sS))}
    (hd : d' = d) (hS : sS = kcell kS i.castSucc) (hD : sD = kcell kD i.castSucc)
    {q : PosShare TreeShare} {fs : Buf (Elt F) (src.view.loc (c : Thread nD τ))} {fd : Buf (Elt F) (dst.view.loc (d : Thread nD τ))}
    (NN : ℕ) (hN : dst.view.amount (.dma (kcell kD i.castSucc)) = NN) (h1 : kAmt kS = NN) (h2 : kAmt kD = NN)
    (B : CellTallies nD τ sig Unit) (t : Fin 31 → CellTallies nD τ sig Unit) (ht : t i = tallyAt (dCell d kD i.castSucc) () NN)
    (hpay₁ : (src.view.loc (c : Thread nD τ) ↦[src.view.set]{q} fs : sProp 𝕄) ⊢ dmaPay v c kS.val i.castSucc)
    (hpay₂ : (dst.view.loc (d : Thread nD τ) ↦[dst.view.set]{fullShare} (dst.view.write (Elt F) fd (src.view.read (Elt F) fs) Finset.univ) : sProp 𝕄)
      ⊢ dmaPay v d kD.val i.castSucc)
    (K : PUnit → sProp 𝕄) :
    iprop(know v N c ∗ owing c (B + left t i.val)
        ∗ ((src.view.loc (c : Thread nD τ) ↦[src.view.set]{q} fs) ∗ (dst.view.loc (d : Thread nD τ) ↦[dst.view.set]{fullShare} fd)
          ∗ reached ER (dCell d kD i.castSucc) 0 ∗ dutyTok ER (dCell c kS i.castSucc) 0 0 ∗ dutyTok ER (dCell d kD i.castSucc) 0 0)
        ∗ (iprop(owing c (B + left t (i.val + 1)) ∗ cred (tallyAt (dCell c kS i.castSucc) () NN)) -∗ K ⟨⟩))
      ⊢ WP c (Prog.lift (.enqueueDma src (.remote (Dev.tc d') dst (.dma sS)) (.dma sD) hsrc hdst hsem)) K := by
  subst hd hS hD
  unfold owing
  iintro ⟨#HR, ⟨%W, HO⟩, ⟨Hs, Hd, Hr, Ht1, Ht2⟩, HK⟩
  ihave #HI1 := (know_d v N c c kS i.castSucc) $$ HR
  ihave #HI2 := (know_d v N c d' kD i.castSucc) $$ HR
  ihave #Hr1 := (know_rd v N c kS i.castSucc) $$ HR
  iapply (Rounds.wp_send_pointsTo 𝒱₀ ER (Rd v) (c : Thread nD τ) none (c' := (d' : Thread nD τ)) (src := src) (dst := dst)
      (sS := .dma (kcell kS i.castSucc)) (sem := .dma (kcell kD i.castSucc)) (q := q) (fs := fs) (fd := fd)
      (κ₁ := N (dCell c kS i.castSucc)) (κ₂ := N (dCell d' kD i.castSucc)) (r₁ := 0) (r₂ := 0) (d₁ := 0) (d₂ := 0)
      (by rw [duties_d]; exact Finset.mem_singleton_self _) (by rw [duties_d]; exact Finset.mem_singleton_self _)
      () () NN hN ((amount_d v c kS _ 0 0).trans h1) ((amount_d v d' kD _ 0 0).trans h2)
      (O₀ := B + left t i.val) (B + left t (i.val + 1)) (by rw [left_step, ← add_assoc, ht]) (W := W)
      (by rw [payload_d]; exact hpay₁) (by rw [payload_d]; exact hpay₂)) $$ [Hs Hd HO Ht1 Ht2 Hr]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr
  iintro ⟨Hc, HO⟩
  rw [wp_ret]
  imodintro
  iapply HK
  isplitl [HO]
  · iexists W; iexact HO
  iexact Hc

/-! ### Where a slot lies, and what landing there leaves -/

theorem xg_set (q : Fin 32) : (slotX xgM q).view.set = (rectX q).set :=
  (View.set_reshape _ _).trans (View.set_slice_whole _ _)
theorem rg_set (q : Fin 32) : (slotR rgM q).view.set = (rectR q).set :=
  (View.set_reshape _ _).trans (View.set_slice_whole _ _)
theorem pa_set (q : Fin 32) : (slotX paM q).view.set = (rectX q).set :=
  (View.set_reshape _ _).trans (View.set_slice_whole _ _)
theorem pb_set (q : Fin 32) : (slotX pbM q).view.set = (rectX q).set :=
  (View.set_reshape _ _).trans (View.set_slice_whole _ _)

/-- An index of slot `q`, by its two coordinates. -/
theorem slot_emb {n : ℕ} (q : Fin 32) (h : (⟨2, ![n, 512]⟩ : Shape).numel = (⟨3, ![1, n, 512]⟩ : Shape).numel)
    (inb : ∀ a, (![q.val, 0, 0] : Fin 3 → Nat) a + (⟨3, ![1, n, 512]⟩ : Shape).size a ≤ (⟨3, ![32, n, 512]⟩ : Shape).size a)
    (j : (⟨2, ![n, 512]⟩ : Shape).Idx) :
    (Rect.unit (s := ⟨3, ![32, n, 512]⟩) ![q.val, 0, 0] (⟨3, ![1, n, 512]⟩ : Shape).size inb).emb (Shape.reshapeEquiv h j) = ix3 q (j 0) (j 1) := by
  have e : Shape.reshapeEquiv h j = ix3 (⟨0, Nat.one_pos⟩ : Fin 1) (j 0) (j 1) :=
    (congrArg (Shape.reshapeEquiv h) (ValueIdx.eq_ix2 j)).trans (ValueIdx.reshapeEquiv_ix2_1ab h (j 0) (j 1))
  rw [e]
  funext a
  refine Fin.ext ?_
  match a with
  | ⟨0, _⟩ => show q.val + 1 * 0 = q.val; omega
  | ⟨1, _⟩ => show 0 + 1 * (j 0).val = (j 0).val; omega
  | ⟨2, _⟩ => show 0 + 1 * (j 1).val = (j 1).val; omega

theorem xg_emb (q : Fin 32) (j : S16x512.Idx) : (slotX xgM q).view.emb j = ix3 q (j 0) (j 1) := slot_emb (n := 16) q _ _ j
theorem pa_emb (q : Fin 32) (j : S16x512.Idx) : (slotX paM q).view.emb j = ix3 q (j 0) (j 1) := slot_emb (n := 16) q _ _ j
theorem pb_emb (q : Fin 32) (j : S16x512.Idx) : (slotX pbM q).view.emb j = ix3 q (j 0) (j 1) := slot_emb (n := 16) q _ _ j
theorem rg_emb (q : Fin 32) (j : S2x512.Idx) : (slotR rgM q).view.emb j = ix3 q (j 0) (j 1) := slot_emb (n := 2) q _ _ j

theorem land_congr {sp : Space} {s : Shape} {e : EltTy} (V : View sig .tc sp s e) (f g : V.ty.Contents (Elt F)) (w : s.Idx → Elt F e)
    (h : ∀ j, cast (congrArg (Elt F) V.elt_eq.symm) (w j) = g (V.emb j)) : ∀ i ∈ V.set, V.write (Elt F) f w Finset.univ i = g i := by
  intro i hi
  obtain ⟨j, -, rfl⟩ := Finset.mem_map.mp hi
  rw [View.write_emb_of_mem f w (Finset.mem_univ j)]
  exact h j

theorem x_share (c : Dev nD) (q : PosShare TreeShare) (f : S16x512.Idx → Elt F .f32) :
    (xM.view.loc (c : Thread nD τ) ↦[xM.view.set]{q} f : sProp 𝕄) = ((c : Thread nD τ).loc cc0_stg0_0 ↦{q} f) := by
  rw [show xM.view.set = Finset.univ from View.set_whole _]
theorem r_share (c : Dev nD) (q : PosShare TreeShare) (f : S2x512.Idx → Elt F .f32) :
    (rM.view.loc (c : Thread nD τ) ↦[rM.view.set]{q} f : sProp 𝕄) = ((c : Thread nD τ).loc cc0_stg1_0 ↦{q} f) := by
  rw [show rM.view.set = Finset.univ from View.set_whole _]
theorem xg_slot (c : Dev nD) (q : Fin 32) (f : S32x16x512.Idx → Elt F .f32) :
    ((slotX xgM q).view.loc (c : Thread nD τ) ↦[(slotX xgM q).view.set]{fullShare} f : sProp 𝕄) = xgPts c q f := by
  unfold xgPts; rw [← xg_set q]; rfl
theorem rg_slot (c : Dev nD) (q : Fin 32) (f : S32x2x512.Idx → Elt F .f32) :
    ((slotR rgM q).view.loc (c : Thread nD τ) ↦[(slotR rgM q).view.set]{fullShare} f : sProp 𝕄) = rgPts c q f := by
  unfold rgPts; rw [← rg_set q]; rfl
theorem pa_slot (c : Dev nD) (q : Fin 32) (f : S32x16x512.Idx → Elt F .f32) :
    ((slotX paM q).view.loc (c : Thread nD τ) ↦[(slotX paM q).view.set]{fullShare} f : sProp 𝕄) = paPts c q f := by
  unfold paPts; rw [← pa_set q]; rfl
theorem pb_slot (c : Dev nD) (q : Fin 32) (f : S32x16x512.Idx → Elt F .f32) :
    ((slotX pbM q).view.loc (c : Thread nD τ) ↦[(slotX pbM q).view.set]{fullShare} f : sProp 𝕄) = pbPts c q f := by
  unfold pbPts; rw [← pb_set q]; rfl

/-- The block that lands in slot `q` of the device `q + 1` places on is the sender's. -/
theorem xg_land (c : Dev nD) (q : Fin 31) (f : S32x16x512.Idx → Elt F .f32) :
    (xgPts (fwd c (q.val + 1)) q.castSucc ((slotX xgM q.castSucc).view.write (Elt F) f (xM.view.read (Elt F) (v.x c)) Finset.univ) : sProp 𝕄)
      = xgPts (fwd c (q.val + 1)) q.castSucc (XG v (fwd c (q.val + 1))) := by
  unfold xgPts
  refine pointsTo_congr fun i hi => land_congr (slotX xgM q.castSucc).view f (XG v (fwd c (q.val + 1))) _ (fun j => ?_) i
    (by rw [xg_set]; exact hi)
  rw [xg_emb]
  show v.x c j = v.x (fwd (fwd c (q.val + 1)) (31 - q.val)) (ix2 (j 0) (j 1))
  rw [fwd_back c _ _ (by have := q.isLt; omega)]
  exact congrArg (v.x c) (ValueIdx.eq_ix2 j)
theorem rg_land (c : Dev nD) (q : Fin 31) (f : S32x2x512.Idx → Elt F .f32) :
    (rgPts (fwd c (q.val + 1)) q.castSucc ((slotR rgM q.castSucc).view.write (Elt F) f (rM.view.read (Elt F) (v.r c)) Finset.univ) : sProp 𝕄)
      = rgPts (fwd c (q.val + 1)) q.castSucc (RG v (fwd c (q.val + 1))) := by
  unfold rgPts
  refine pointsTo_congr fun i hi => land_congr (slotR rgM q.castSucc).view f (RG v (fwd c (q.val + 1))) _ (fun j => ?_) i
    (by rw [rg_set]; exact hi)
  rw [rg_emb]
  show v.r c j = v.r (fwd (fwd c (q.val + 1)) (31 - q.val)) (ix2 (j 0) (j 1))
  rw [fwd_back c _ _ (by have := q.isLt; omega)]
  exact congrArg (v.r c) (ValueIdx.eq_ix2 j)
/-- The part that lands in slot `q` of the device `q + 1` places back is the one computed for it. -/
theorem pb_land (c : Dev nD) (q : Fin 31) (f : S32x16x512.Idx → Elt F .f32) :
    (pbPts (fwd c (31 - q.val)) q.castSucc ((slotX pbM q.castSucc).view.write (Elt F) f ((slotX paM q.castSucc).view.read (Elt F) (PA v c)) Finset.univ) : sProp 𝕄)
      = pbPts (fwd c (31 - q.val)) q.castSucc (PB v (fwd c (31 - q.val))) := by
  unfold pbPts
  refine pointsTo_congr fun i hi => land_congr (slotX pbM q.castSucc).view f (PB v (fwd c (31 - q.val))) _ (fun j => ?_) i
    (by rw [pb_set]; exact hi)
  rw [pb_emb]
  refine (congrArg (PA v c) (pa_emb q.castSucc j)).trans ?_
  show PA v c (ix3 q.castSucc (j 0) (j 1)) = PA v (fwd (fwd c (31 - q.val)) (q.val + 1)) (ix3 q.castSucc (j 0) (j 1))
  rw [fwd_back c _ _ (by have := q.isLt; omega)]

theorem slotX_amount (A : Memref sig .tc .vmem S32x16x512 .f32) (q : Fin 32) (s : DmaSem sig) : (slotX A q).view.amount (.dma s) = NX := rfl
theorem slotR_amount (A : Memref sig .tc .vmem S32x2x512 .f32) (q : Fin 32) (s : DmaSem sig) : (slotR A q).view.amount (.dma s) = NR := rfl

/-! ### The three sweeps of transfers -/

def sendRPre (c : Dev nD) (i : Fin 31) : sProp 𝕄 :=
  iprop(rPts v c i.castSucc ∗ (∃ f, rgPts (fwd c (i.val + 1)) i.castSucc f) ∗ reached ER (dCell (fwd c (i.val + 1)) 3 i.castSucc) 0
    ∗ dutyTok ER (dCell c 2 i.castSucc) 0 0 ∗ dutyTok ER (dCell (fwd c (i.val + 1)) 3 i.castSucc) 0 0)
def sendXPre (c : Dev nD) (i : Fin 31) : sProp 𝕄 :=
  iprop(xPts v c i.castSucc ∗ (∃ f, xgPts (fwd c (i.val + 1)) i.castSucc f) ∗ reached ER (dCell (fwd c (i.val + 1)) 1 i.castSucc) 0
    ∗ dutyTok ER (dCell c 0 i.castSucc) 0 0 ∗ dutyTok ER (dCell (fwd c (i.val + 1)) 1 i.castSucc) 0 0)
def sendPPre (c : Dev nD) (i : Fin 31) : sProp 𝕄 :=
  iprop(paPts c i.castSucc (PA v c) ∗ (∃ f, pbPts (fwd c (31 - i.val)) i.castSucc f) ∗ reached ER (dCell (fwd c (31 - i.val)) 5 i.castSucc) 0
    ∗ dutyTok ER (dCell c 4 i.castSucc) 0 0 ∗ dutyTok ER (dCell (fwd c (31 - i.val)) 5 i.castSucc) 0 0)

theorem sendR_step (c : Dev nD) (B : CellTallies nD τ sig Unit) (i : Fin 31) (K : PUnit → sProp 𝕄) :
    iprop(know v N c ∗ owing c (B + left (tR c) i.val) ∗ sendRPre v c i
        ∗ (iprop(owing c (B + left (tR c) (i.val + 1)) ∗ cred (tallyAt (dCell c 2 i.castSucc) () (kAmt 2))) -∗ K ⟨⟩)) ⊢ WP c (sendROp c i) K := by
  unfold sendROp sendRPre
  iintro ⟨HR, HO, ⟨Hs, ⟨%f, Hd⟩, Hr, Ht1, Ht2⟩, HK⟩
  iapply (send_step v N c (fwd c (i.val + 1)) 2 3 i (devR_eq c i) (semAt_6 _) (semAt_7 _) (src := rM) (dst := slotR rgM i.castSucc) (q := ShareLeaves.leaf 5 fullShare i.castSucc)
    (fs := v.r c) (fd := f) NR (slotR_amount _ _ _) rfl rfl B (tR c) rfl
    (by rw [r_share]; exact BI.Entails.refl _) (Entails.of_eq ((rg_slot _ _ _).trans (rg_land v c i f))) K) $$ [HR HO Hs Hd Hr Ht1 Ht2 HK]
  isplitl [HR]; · iexact HR
  isplitl [HO]; · iexact HO
  isplitr [HK]
  · rw [r_share, rg_slot]
    isplitl [Hs]; · iexact Hs
    isplitl [Hd]; · iexact Hd
    isplitl [Hr]; · iexact Hr
    isplitl [Ht1]; · iexact Ht1
    iexact Ht2
  iexact HK

theorem sendX_step (c : Dev nD) (B : CellTallies nD τ sig Unit) (i : Fin 31) (K : PUnit → sProp 𝕄) :
    iprop(know v N c ∗ owing c (B + left (tX c) i.val) ∗ sendXPre v c i
        ∗ (iprop(owing c (B + left (tX c) (i.val + 1)) ∗ cred (tallyAt (dCell c 0 i.castSucc) () (kAmt 0))) -∗ K ⟨⟩)) ⊢ WP c (sendXOp c i) K := by
  unfold sendXOp sendXPre
  iintro ⟨HR, HO, ⟨Hs, ⟨%f, Hd⟩, Hr, Ht1, Ht2⟩, HK⟩
  iapply (send_step v N c (fwd c (i.val + 1)) 0 1 i (devX_eq c i) (semAt_4 _) (semAt_5 _) (src := xM) (dst := slotX xgM i.castSucc) (q := ShareLeaves.leaf 5 fullShare i.castSucc)
    (fs := v.x c) (fd := f) NX (slotX_amount _ _ _) rfl rfl B (tX c) rfl
    (by rw [x_share]; exact BI.Entails.refl _) (Entails.of_eq ((xg_slot _ _ _).trans (xg_land v c i f))) K) $$ [HR HO Hs Hd Hr Ht1 Ht2 HK]
  isplitl [HR]; · iexact HR
  isplitl [HO]; · iexact HO
  isplitr [HK]
  · rw [x_share, xg_slot]
    isplitl [Hs]; · iexact Hs
    isplitl [Hd]; · iexact Hd
    isplitl [Hr]; · iexact Hr
    isplitl [Ht1]; · iexact Ht1
    iexact Ht2
  iexact HK

theorem sendP_step (c : Dev nD) (B : CellTallies nD τ sig Unit) (i : Fin 31) (K : PUnit → sProp 𝕄) :
    iprop(know v N c ∗ owing c (B + left (tP c) i.val) ∗ sendPPre v c i
        ∗ (iprop(owing c (B + left (tP c) (i.val + 1)) ∗ cred (tallyAt (dCell c 4 i.castSucc) () (kAmt 4))) -∗ K ⟨⟩)) ⊢ WP c (sendPOp c i) K := by
  unfold sendPOp sendPPre
  iintro ⟨HR, HO, ⟨Hs, ⟨%f, Hd⟩, Hr, Ht1, Ht2⟩, HK⟩
  iapply (send_step v N c (fwd c (31 - i.val)) 4 5 i (devP_eq c i) (semAt_8 _) (semAt_9 _) (src := (slotX paM i.castSucc)) (dst := slotX pbM i.castSucc) (q := fullShare)
    (fs := PA v c) (fd := f) NX (slotX_amount _ _ _) rfl rfl B (tP c) rfl
    (by rw [pa_slot]; exact BI.Entails.refl _) (Entails.of_eq ((pb_slot _ _ _).trans (pb_land v c i f))) K) $$ [HR HO Hs Hd Hr Ht1 Ht2 HK]
  isplitl [HR]; · iexact HR
  isplitl [HO]; · iexact HO
  isplitr [HK]
  · rw [pa_slot, pb_slot]
    isplitl [Hs]; · iexact Hs
    isplitl [Hd]; · iexact Hd
    isplitl [Hr]; · iexact Hr
    isplitl [Ht1]; · iexact Ht1
    iexact Ht2
  iexact HK

end Cert.KernelIdeal.Run

end
-- ==== Proof.Compute.lean ====
/-
  The kernel's own loads and stores: the own block into the last slot, one batch through the experts, the own part kept,
  the sum of what was collected.
-/
module

public import proofs.«01_k».proof.Proof.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F] [Named F]
local notation "𝕄" => MT nD τ sig Unit (Elt F) ℕ UU ℕ

/-! ## Slots, batches and whole buffers -/

theorem mem_rectX (q : Fin 32) (i : S32x16x512.Idx) : i ∈ (rectX q).set ↔ (i 0).val = q.val := by
  rw [Rect.mem_set_unit]
  constructor
  · intro h
    have h0 : q.val ≤ (i 0).val ∧ (i 0).val < q.val + 1 := h 0
    omega
  · intro h a
    match a with
    | ⟨0, _⟩ => exact ⟨show q.val ≤ (i 0).val by omega, show (i 0).val < q.val + 1 by omega⟩
    | ⟨1, _⟩ => exact ⟨Nat.zero_le _, by show (i 1).val < 0 + 16; have h1 : (i 1).val < 16 := (i 1).isLt; omega⟩
    | ⟨2, _⟩ => exact ⟨Nat.zero_le _, by show (i 2).val < 0 + 512; have h1 : (i 2).val < 512 := (i 2).isLt; omega⟩
theorem mem_rectR (q : Fin 32) (i : S32x2x512.Idx) : i ∈ (rectR q).set ↔ (i 0).val = q.val := by
  rw [Rect.mem_set_unit]
  constructor
  · intro h
    have h0 : q.val ≤ (i 0).val ∧ (i 0).val < q.val + 1 := h 0
    omega
  · intro h a
    match a with
    | ⟨0, _⟩ => exact ⟨show q.val ≤ (i 0).val by omega, show (i 0).val < q.val + 1 by omega⟩
    | ⟨1, _⟩ => exact ⟨Nat.zero_le _, by show (i 1).val < 0 + 2; have h1 : (i 1).val < 2 := (i 1).isLt; omega⟩
    | ⟨2, _⟩ => exact ⟨Nat.zero_le _, by show (i 2).val < 0 + 512; have h1 : (i 2).val < 512 := (i 2).isLt; omega⟩
theorem mem_rect8 (b : Fin 4) (i : S32x16x512.Idx) : i ∈ (rect8 b).set ↔ (i 0).val / 8 = b.val := by
  rw [Rect.mem_set_unit]
  constructor
  · intro h
    have h0 : 8 * b.val ≤ (i 0).val ∧ (i 0).val < 8 * b.val + 8 := h 0
    omega
  · intro h a
    match a with
    | ⟨0, _⟩ => exact ⟨show 8 * b.val ≤ (i 0).val by omega, show (i 0).val < 8 * b.val + 8 by omega⟩
    | ⟨1, _⟩ => exact ⟨Nat.zero_le _, by show (i 1).val < 0 + 16; have h1 : (i 1).val < 16 := (i 1).isLt; omega⟩
    | ⟨2, _⟩ => exact ⟨Nat.zero_le _, by show (i 2).val < 0 + 512; have h1 : (i 2).val < 512 := (i 2).isLt; omega⟩

theorem rectX_cover : (Finset.univ : Finset S32x16x512.Idx) = Finset.univ.biUnion fun q : Fin 32 => (rectX q).set := by
  ext i
  simp only [Finset.mem_univ, Finset.mem_biUnion, true_and, true_iff]
  exact ⟨⟨(i 0).val, (i 0).isLt⟩, (mem_rectX _ _).mpr rfl⟩
theorem rectX_disj (t t' : Fin 32) (h : t ≠ t') : Disjoint (rectX t).set (rectX t').set :=
  Finset.disjoint_left.mpr fun i hi hj => h (Fin.ext (((mem_rectX t i).mp hi).symm.trans ((mem_rectX t' i).mp hj)))
theorem rectR_cover : (Finset.univ : Finset S32x2x512.Idx) = Finset.univ.biUnion fun q : Fin 32 => (rectR q).set := by
  ext i
  simp only [Finset.mem_univ, Finset.mem_biUnion, true_and, true_iff]
  exact ⟨⟨(i 0).val, (i 0).isLt⟩, (mem_rectR _ _).mpr rfl⟩
theorem rectR_disj (t t' : Fin 32) (h : t ≠ t') : Disjoint (rectR t).set (rectR t').set :=
  Finset.disjoint_left.mpr fun i hi hj => h (Fin.ext (((mem_rectR t i).mp hi).symm.trans ((mem_rectR t' i).mp hj)))
theorem rect8_cover : (Finset.univ : Finset S32x16x512.Idx) = Finset.univ.biUnion fun b : Fin 4 => (rect8 b).set := by
  ext i
  simp only [Finset.mem_univ, Finset.mem_biUnion, true_and, true_iff]
  exact ⟨⟨(i 0).val / 8, by have h : (i 0).val < 32 := (i 0).isLt; omega⟩, (mem_rect8 _ _).mpr rfl⟩
theorem rect8_disj (t t' : Fin 4) (h : t ≠ t') : Disjoint (rect8 t).set (rect8 t').set :=
  Finset.disjoint_left.mpr fun i hi hj => h (Fin.ext (((mem_rect8 t i).mp hi).symm.trans ((mem_rect8 t' i).mp hj)))
/-- Slot `8 b + i`. -/
def slot8 (b : Fin 4) (i : Fin 8) : Fin 32 := ⟨8 * b.val + i.val, by have := b.isLt; have := i.isLt; omega⟩
theorem rect8_slots (b : Fin 4) : (rect8 b).set = Finset.univ.biUnion fun i : Fin 8 => (rectX (slot8 b i)).set := by
  ext i
  simp only [Finset.mem_biUnion, Finset.mem_univ, true_and, mem_rect8, mem_rectX, slot8]
  constructor
  · intro h; exact ⟨⟨(i 0).val % 8, Nat.mod_lt _ (by decide)⟩, by show (i 0).val = 8 * b.val + (i 0).val % 8; omega⟩
  · rintro ⟨j, hj⟩; have := j.isLt; omega
theorem slot8_disj (b : Fin 4) (t t' : Fin 8) (h : t ≠ t') : Disjoint (rectX (slot8 b t)).set (rectX (slot8 b t')).set :=
  rectX_disj _ _ fun e => h (Fin.ext (by have := congrArg Fin.val e; simp only [slot8] at this; omega))

abbrev xgB (c : Dev nD) (b : Fin 4) (f : S32x16x512.Idx → Elt F .f32) : sProp 𝕄 :=
  ((c : Thread nD τ).loc cc0_scratch0) ↦[(rect8 b).set]{fullShare} f
abbrev paB (c : Dev nD) (b : Fin 4) (f : S32x16x512.Idx → Elt F .f32) : sProp 𝕄 :=
  ((c : Thread nD τ).loc cc0_scratch2) ↦[(rect8 b).set]{fullShare} f
abbrev xgAll (c : Dev nD) (f : S32x16x512.Idx → Elt F .f32) : sProp 𝕄 := ((c : Thread nD τ).loc cc0_scratch0) ↦{fullShare} f
abbrev rgAll (c : Dev nD) (f : S32x2x512.Idx → Elt F .f32) : sProp 𝕄 := ((c : Thread nD τ).loc cc0_scratch1) ↦{fullShare} f
abbrev paAll (c : Dev nD) (f : S32x16x512.Idx → Elt F .f32) : sProp 𝕄 := ((c : Thread nD τ).loc cc0_scratch2) ↦{fullShare} f
abbrev pbAll (c : Dev nD) (f : S32x16x512.Idx → Elt F .f32) : sProp 𝕄 := ((c : Thread nD τ).loc cc0_scratch3) ↦{fullShare} f

theorem xgAll_slots (c : Dev nD) (f : S32x16x512.Idx → Elt F .f32) : (xgAll c f : sProp 𝕄) = bigSep Finset.univ fun q => xgPts c q f := by
  unfold xgAll; rw [rectX_cover]; exact pointsTo_biUnion _ _ fun t _ t' _ => rectX_disj t t'
theorem rgAll_slots (c : Dev nD) (f : S32x2x512.Idx → Elt F .f32) : (rgAll c f : sProp 𝕄) = bigSep Finset.univ fun q => rgPts c q f := by
  unfold rgAll; rw [rectR_cover]; exact pointsTo_biUnion _ _ fun t _ t' _ => rectR_disj t t'
theorem paAll_slots (c : Dev nD) (f : S32x16x512.Idx → Elt F .f32) : (paAll c f : sProp 𝕄) = bigSep Finset.univ fun q => paPts c q f := by
  unfold paAll; rw [rectX_cover]; exact pointsTo_biUnion _ _ fun t _ t' _ => rectX_disj t t'
theorem pbAll_slots (c : Dev nD) (f : S32x16x512.Idx → Elt F .f32) : (pbAll c f : sProp 𝕄) = bigSep Finset.univ fun q => pbPts c q f := by
  unfold pbAll; rw [rectX_cover]; exact pointsTo_biUnion _ _ fun t _ t' _ => rectX_disj t t'
theorem xgAll_batches (c : Dev nD) (f : S32x16x512.Idx → Elt F .f32) : (xgAll c f : sProp 𝕄) = bigSep Finset.univ fun b => xgB c b f := by
  unfold xgAll; rw [rect8_cover]; exact pointsTo_biUnion _ _ fun t _ t' _ => rect8_disj t t'
theorem paAll_batches (c : Dev nD) (f : S32x16x512.Idx → Elt F .f32) : (paAll c f : sProp 𝕄) = bigSep Finset.univ fun b => paB c b f := by
  unfold paAll; rw [rect8_cover]; exact pointsTo_biUnion _ _ fun t _ t' _ => rect8_disj t t'
theorem xgB_slots (c : Dev nD) (b : Fin 4) (f : S32x16x512.Idx → Elt F .f32) : (xgB c b f : sProp 𝕄) = bigSep Finset.univ fun i => xgPts c (slot8 b i) f := by
  unfold xgB; rw [rect8_slots]; exact pointsTo_biUnion _ _ fun t _ t' _ => slot8_disj b t t'
theorem paB_slots (c : Dev nD) (b : Fin 4) (f : S32x16x512.Idx → Elt F .f32) : (paB c b f : sProp 𝕄) = bigSep Finset.univ fun i => paPts c (slot8 b i) f := by
  unfold paB; rw [rect8_slots]; exact pointsTo_biUnion _ _ fun t _ t' _ => slot8_disj b t t'

/-! ## One load, one store -/

theorem setOn_whole (b : Ref sig .tc) (M : Finset b.ty.shape.Idx) : (Memref.whole b : Memref sig .tc _ _ _).view.setOn M = M :=
  Finset.map_refl

theorem ld {α : Type} (c : Dev nD) {cs : CoreSpace} {s : Shape} {e : EltTy} (m : Memref sig .tc cs s e) (r : LoadRect s) (hl : m.view.LoadsAt r)
    (k : (r.shape.Idx → Elt F e) → Prog (TpuEff nD τ sig (Elt F) Λ₀ .tc) α)
    {S : Finset (Idx (m.view.loc (c : Thread nD τ)))} {q : PosShare TreeShare} {f : Buf (Elt F) (m.view.loc (c : Thread nD τ))}
    (hS : m.view.setOn r.set ⊆ S) (K : α → sProp 𝕄) :
    iprop((m.view.loc (c : Thread nD τ) ↦[S]{q} f)
        ∗ ((m.view.loc (c : Thread nD τ) ↦[S]{q} f) -∗ wp frame (wpE (defs₀ (F := F)) 𝒱₀ (c : Thread nD τ) none) Set.univ (k (m.view.readAt (Elt F) r f)) K))
      ⊢ wp frame (wpE (defs₀ (F := F)) 𝒱₀ (c : Thread nD τ) none) Set.univ (Prog.lift (.load m r hl) >>= k) K := by
  iintro ⟨Hp, HK⟩
  iapply (wp_load 𝒱₀ (c : Thread nD τ) none Set.univ (m := m) (r := r) (hl := hl) (k := k) hS) $$ Hp
  iexact HK

theorem st (c : Dev nD) {cs : CoreSpace} {s : Shape} {e : EltTy} (m : Memref sig .tc cs s e) (r : Rect s) (w : r.shape.Idx → Elt F e)
    (hx : (m.access r).Stores Finset.univ) (hm : (Finset.univ : Finset r.shape.Idx) = Finset.univ ∨ ∀ a, r.stride a = 1)
    {S : Finset (Idx ((m.access r).loc (c : Thread nD τ)))} {f g : Buf (Elt F) ((m.access r).loc (c : Thread nD τ))}
    (hS : (m.access r).set = S) (hg : ∀ j, cast (congrArg (Elt F) (m.access r).elt_eq.symm) (w j) = g ((m.access r).emb j))
    (K : PUnit → sProp 𝕄) :
    iprop(((m.access r).loc (c : Thread nD τ) ↦[S]{fullShare} f) ∗ (((m.access r).loc (c : Thread nD τ) ↦[S]{fullShare} g) -∗ K ⟨⟩))
      ⊢ wp frame (wpE (defs₀ (F := F)) 𝒱₀ (c : Thread nD τ) none) Set.univ (Prog.lift (.store m r w Finset.univ hx hm)) K := by
  subst hS
  iintro ⟨Hp, HK⟩
  iapply (wp_store 𝒱₀ (c : Thread nD τ) none Set.univ (m := m) (r := r) (w := w) (hx := hx) (hm := hm) (Mk := Finset.univ) (k := .ret) (f := f) (S := (m.access r).set) subset_rfl) $$ Hp
  iintro Hp
  rw [wp_ret]
  imodintro
  iapply HK
  exact Entails.of_eq (pointsTo_congr (land_congr (m.access r) f g w hg))

theorem stB {α : Type} (c : Dev nD) {cs : CoreSpace} {s : Shape} {e : EltTy} (m : Memref sig .tc cs s e) (r : Rect s) (w : r.shape.Idx → Elt F e)
    (hx : (m.access r).Stores Finset.univ) (hm : (Finset.univ : Finset r.shape.Idx) = Finset.univ ∨ ∀ a, r.stride a = 1)
    (k : PUnit → Prog (TpuEff nD τ sig (Elt F) Λ₀ .tc) α)
    {S : Finset (Idx ((m.access r).loc (c : Thread nD τ)))} {f g : Buf (Elt F) ((m.access r).loc (c : Thread nD τ))}
    (hS : (m.access r).set = S) (hg : ∀ j, cast (congrArg (Elt F) (m.access r).elt_eq.symm) (w j) = g ((m.access r).emb j))
    (K : α → sProp 𝕄) :
    iprop(((m.access r).loc (c : Thread nD τ) ↦[S]{fullShare} f)
        ∗ (((m.access r).loc (c : Thread nD τ) ↦[S]{fullShare} g) -∗ wp frame (wpE (defs₀ (F := F)) 𝒱₀ (c : Thread nD τ) none) Set.univ (k ⟨⟩) K))
      ⊢ wp frame (wpE (defs₀ (F := F)) 𝒱₀ (c : Thread nD τ) none) Set.univ (Prog.lift (.store m r w Finset.univ hx hm) >>= k) K := by
  rw [wp_bind]
  exact st c m r w hx hm hS hg fun a => wp frame (wpE (defs₀ (F := F)) 𝒱₀ (c : Thread nD τ) none) Set.univ (k a) K

variable (v : Ins F)

theorem XG_own (c : Dev nD) (i : S32x16x512.Idx) (h : (i 0).val = 31) : XG v c i = v.x c (ix2 (i 1) (i 2)) := by
  unfold XG; rw [h]; rw [show (31 - 31 : ℕ) = 0 from rfl, fwd_0]
theorem RG_own (c : Dev nD) (i : S32x2x512.Idx) (h : (i 0).val = 31) : RG v c i = v.r c (ix2 (i 1) (i 2)) := by
  unfold RG; rw [h]; rw [show (31 - 31 : ℕ) = 0 from rfl, fwd_0]

theorem pay1_apply (x : Vec F S16x512 .f32) (j : S1x16x512.Idx) : k0_pay1 x j = x (ix2 (j 1) (j 2)) := by
  unfold k0_pay1
  rw [shapeCast_self]
  exact (congrArg _ (ValueIdx.eq_ix3 j)).trans (ValueIdx.shapeCast_ab_1ab_apply x _ (j 0) (j 1) (j 2))
theorem pay2_apply (x : Vec F S2x512 .f32) (j : S1x2x512.Idx) : k0_pay2 x j = x (ix2 (j 1) (j 2)) := by
  unfold k0_pay2
  rw [shapeCast_self]
  exact (congrArg _ (ValueIdx.eq_ix3 j)).trans (ValueIdx.shapeCast_ab_1ab_apply x _ (j 0) (j 1) (j 2))
theorem pay65_eq (x : Vec F S1x16x512 .f32) : k0_pay65 x = x := by
  unfold k0_pay65
  exact shapeCast_shapeCast x _ _

theorem own_x (c : Dev nD) (j : S1x16x512.Idx) :
    k0_pay1 (xM.view.readAt (Elt F) rectX0.toLoadRect (v.x c)) j = XG v c ((xgM.access (rectX 31)).emb j) := by
  rw [pay1_apply, XG_own v c _ (show 31 + 1 * (j 0).val = 31 by have h : (j 0).val < 1 := (j 0).isLt; omega)]
  refine congrArg (v.x c) (funext fun a => Fin.ext ?_)
  match a with
  | ⟨0, _⟩ => rfl
  | ⟨1, _⟩ => rfl
theorem own_r (c : Dev nD) (j : S1x2x512.Idx) :
    k0_pay2 (rM.view.readAt (Elt F) rectR0.toLoadRect (v.r c)) j = RG v c ((rgM.access (rectR 31)).emb j) := by
  rw [pay2_apply, RG_own v c _ (show 31 + 1 * (j 0).val = 31 by have h : (j 0).val < 1 := (j 0).isLt; omega)]
  refine congrArg (v.r c) (funext fun a => Fin.ext ?_)
  match a with
  | ⟨0, _⟩ => rfl
  | ⟨1, _⟩ => rfl

def ownHeld (c : Dev nD) : sProp 𝕄 := iprop(xPts v c 31 ∗ rPts v c 31)

theorem own_step (c : Dev nD) (K : PUnit → sProp 𝕄) :
    iprop(ownHeld v c ∗ (∃ f, xgPts c 31 f) ∗ (∃ f, rgPts c 31 f)
        ∗ (iprop(ownHeld v c ∗ xgPts c 31 (XG v c) ∗ rgPts c 31 (RG v c)) -∗ K ⟨⟩)) ⊢ WP c ownOp K := by
  unfold ownHeld ownOp
  iintro ⟨⟨Hx, Hr⟩, ⟨%f, Hg⟩, ⟨%g, Hh⟩, HK⟩
  iapply (ld c xM rectX0.toLoadRect _ _ (Finset.subset_univ _)) $$ [$Hx Hr Hg Hh HK]
  iintro Hx
  iapply (ld c xgM (rectX 31).toLoadRect _ _ (S := (rectX 31).set) (subset_of_eq (setOn_whole _ _))) $$ [$Hg Hx Hr Hh HK]
  iintro Hg
  iapply (stB c xgM (rectX 31) _ _ _ _ (S := (rectX 31).set) (g := XG v c) (View.set_slice_whole _ _) (own_x v c)) $$ [$Hg Hx Hr Hh HK]
  iintro Hg
  iapply (ld c rM rectR0.toLoadRect _ _ (Finset.subset_univ _)) $$ [$Hr Hx Hg Hh HK]
  iintro Hr
  iapply (ld c rgM (rectR 31).toLoadRect _ _ (S := (rectR 31).set) (subset_of_eq (setOn_whole _ _))) $$ [$Hh Hx Hr Hg HK]
  iintro Hh
  iapply (st c rgM (rectR 31) _ _ _ (S := (rectR 31).set) (g := RG v c) (View.set_slice_whole _ _) (own_r v c)) $$ [$Hh Hx Hr Hg HK]
  iintro Hh
  iapply HK
  isplitl [Hx Hr]
  · isplitl [Hx]; · iexact Hx
    iexact Hr
  isplitl [Hg]; · iexact Hg
  iexact Hh

/-! ## One batch, the own part, the sum -/

/-- The staged expert weights. -/
def wHeld (c : Dev nD) : sProp 𝕄 :=
  iprop((((c : Thread nD τ).loc cc0_stg2_0) ↦{fullShare} (v.u c : S2x512x1024.Idx → Elt F .bf16))
    ∗ (((c : Thread nD τ).loc cc0_stg3_0) ↦{fullShare} (v.d c : S2x1024x512.Idx → Elt F .bf16)))

theorem batch_val (c : Dev nD) (b : Fin 4) (j : S8x16x512.Idx) : PAb v c b j = PA v c ((paM.access (rect8 b)).emb j) := by
  have hj : (j 0).val < 8 := (j 0).isLt
  have h0 : ((paM.access (rect8 b)).emb j 0).val = 8 * b.val + (j 0).val := by
    show 8 * b.val + 1 * (j 0).val = _; omega
  unfold PA
  have hb : batchOf ((paM.access (rect8 b)).emb j 0) = b := Fin.ext (by show ((paM.access (rect8 b)).emb j 0).val / 8 = b.val; omega)
  rw [hb]
  refine congrArg (PAb v c b) (funext fun a => Fin.ext ?_)
  match a with
  | ⟨0, _⟩ => show (j 0).val = ((paM.access (rect8 b)).emb j 0).val % 8; omega
  | ⟨1, _⟩ => show (j 1).val = 0 + 1 * (j 1).val; omega
  | ⟨2, _⟩ => show (j 2).val = 0 + 1 * (j 2).val; omega

/-- The routers as every batch reads them. -/
abbrev RV (c : Dev nD) : FVec F S64x512 .f32 := k0_pay3 (rgM.view.readAt (Elt F) rectRA.toLoadRect (RG v c))

theorem batch_step (c : Dev nD) (b : Fin 4) (K : PUnit → sProp 𝕄) :
    iprop(wHeld v c ∗ xgB c b (XG v c) ∗ (∃ f, paB c b f)
        ∗ (iprop(wHeld v c ∗ xgB c b (XG v c) ∗ paB c b (PA v c)) -∗ K ⟨⟩)) ⊢ WP c (batchOp (RV v c) b) K := by
  unfold wHeld batchOp
  iintro ⟨⟨Hu, Hd⟩, Hx, ⟨%f, Hp⟩, HK⟩
  iapply (ld c xgM (rect8 b).toLoadRect _ _ (S := (rect8 b).set) (subset_of_eq (setOn_whole _ _))) $$ [$Hx Hu Hd Hp HK]
  iintro Hx
  iapply (ld c w1M rectU0.toLoadRect _ _ (Finset.subset_univ _)) $$ [$Hu Hx Hd Hp HK]
  iintro Hu
  iapply (ld c w2M rectD0.toLoadRect _ _ (Finset.subset_univ _)) $$ [$Hd Hx Hu Hp HK]
  iintro Hd
  iapply (ld c w1M rectU1.toLoadRect _ _ (Finset.subset_univ _)) $$ [$Hu Hx Hd Hp HK]
  iintro Hu
  iapply (ld c w2M rectD1.toLoadRect _ _ (Finset.subset_univ _)) $$ [$Hd Hx Hu Hp HK]
  iintro Hd
  iapply (ld c paM (rect8 b).toLoadRect _ _ (S := (rect8 b).set) (subset_of_eq (setOn_whole _ _))) $$ [$Hp Hx Hu Hd HK]
  iintro Hp
  iapply (st c paM (rect8 b) _ _ _ (S := (rect8 b).set) (g := PA v c) (View.set_slice_whole _ _) (batch_val v c b)) $$ [$Hp Hx Hu Hd HK]
  iintro Hp
  iapply HK
  isplitl [Hu Hd]
  · isplitl [Hu]; · iexact Hu
    iexact Hd
  isplitl [Hx]; · iexact Hx
  iexact Hp

theorem keep_val (c : Dev nD) (j : S1x16x512.Idx) :
    k0_pay65 (paM.view.readAt (Elt F) (rectX 31).toLoadRect (PA v c)) j = PB v c ((pbM.access (rectX 31)).emb j) := by
  rw [pay65_eq]
  unfold PB
  have h0 : ((pbM.access (rectX 31)).emb j 0).val = 31 := show 31 + 1 * (j 0).val = 31 by have h : (j 0).val < 1 := (j 0).isLt; omega
  rw [h0, fwd_32]
  rfl

theorem keep_step (c : Dev nD) (K : PUnit → sProp 𝕄) :
    iprop(paPts c 31 (PA v c) ∗ (∃ f, pbPts c 31 f)
        ∗ (iprop(paPts c 31 (PA v c) ∗ pbPts c 31 (PB v c)) -∗ K ⟨⟩)) ⊢ WP c keepOp K := by
  unfold keepOp
  iintro ⟨Hp, ⟨%f, Hb⟩, HK⟩
  iapply (ld c paM (rectX 31).toLoadRect _ _ (S := (rectX 31).set) (subset_of_eq (setOn_whole _ _))) $$ [$Hp Hb HK]
  iintro Hp
  iapply (ld c pbM (rectX 31).toLoadRect _ _ (S := (rectX 31).set) (subset_of_eq (setOn_whole _ _))) $$ [$Hb Hp HK]
  iintro Hb
  iapply (st c pbM (rectX 31) _ _ _ (S := (rectX 31).set) (g := PB v c) (View.set_slice_whole _ _) (keep_val v c)) $$ [$Hb Hp HK]
  iintro Hb
  iapply HK
  isplitl [Hp]; · iexact Hp
  iexact Hb

/-- The staged result. -/
abbrev outPts (c : Dev nD) (f : S16x512.Idx → Elt F .f32) : sProp 𝕄 := ((c : Thread nD τ).loc cc0_stg4_0) ↦{fullShare} f

theorem rectX0_set : rectX0.set = (Finset.univ : Finset S16x512.Idx) := by
  refine Finset.eq_univ_of_forall fun i => Rect.mem_set_unit.mpr fun a => ?_
  match a with
  | ⟨0, _⟩ => exact ⟨Nat.zero_le _, show (i 0).val < 0 + 16 by have h1 : (i 0).val < 16 := (i 0).isLt; omega⟩
  | ⟨1, _⟩ => exact ⟨Nat.zero_le _, show (i 1).val < 0 + 512 by have h1 : (i 1).val < 512 := (i 1).isLt; omega⟩

theorem sum_step (c : Dev nD) (K : PUnit → sProp 𝕄) :
    iprop(pbAll c (PB v c) ∗ (∃ f, outPts c f)
        ∗ (iprop(pbAll c (PB v c) ∗ outPts c (OUT v c)) -∗ K ⟨⟩)) ⊢ WP c sumOp K := by
  unfold sumOp
  iintro ⟨Hb, ⟨%f, Ho⟩, HK⟩
  iapply (ld c pbM rectXA.toLoadRect _ _ (Finset.subset_univ _)) $$ [$Hb Ho HK]
  iintro Hb
  iapply (ld c oM rectX0.toLoadRect _ _ (Finset.subset_univ _)) $$ [$Ho Hb HK]
  iintro Ho
  iapply (st c oM rectX0 _ _ _ (S := Finset.univ) (g := OUT v c) ?_ (fun j => ?_)) $$ [$Ho Hb HK]
  · exact (View.set_slice_whole _ _).trans rectX0_set
  · refine congrArg (OUT v c) (funext fun a => Fin.ext ?_)
    match a with
    | ⟨0, _⟩ => show (j 0).val = 0 + 1 * (j 0).val; omega
    | ⟨1, _⟩ => show (j 1).val = 0 + 1 * (j 1).val; omega
  iintro Ho
  iapply HK
  isplitl [Hb]; · iexact Hb
  iexact Ho

end Cert.KernelIdeal.Run

end
-- ==== Proof.Body.lean ====
/-
  The body once, at a device not named: from the opened cells to every cell spent, the result block staged.
-/
module

public import proofs.«01_k».proof.Proof.Compute

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F] [Named F]
local notation "𝕄" => MT nD τ sig Unit (Elt F) ℕ UU ℕ

/-! ## Families of 31, split and turned round -/

/-- One assertion per slot that takes another device's block. -/
abbrev bs {n : ℕ} (Φ : Fin n → sProp 𝕄) : sProp 𝕄 := bigSep Finset.univ Φ

theorem bs_sep {n : ℕ} (Φ Ψ : Fin n → sProp 𝕄) : bs (fun i => iprop(Φ i ∗ Ψ i)) = iprop(bs Φ ∗ bs Ψ) := BI.bigSep_sep' ..
theorem bs_mono {n : ℕ} {Φ Ψ : Fin n → sProp 𝕄} (h : ∀ i, Φ i ⊢ Ψ i) : bs Φ ⊢ bs Ψ := BI.bigSep_mono fun i _ => h i
theorem bs_rev {n : ℕ} (Φ : Fin n → sProp 𝕄) : bs Φ = bs fun i => Φ i.rev := BI.bigSep_univ_equiv Fin.revPerm Φ
theorem bs_add (m n : ℕ) (Φ : Fin (m + n) → sProp 𝕄) :
    bs Φ = iprop((bs fun i : Fin m => Φ (i.castAdd n)) ∗ bs fun i : Fin n => Φ (i.natAdd m)) := by
  unfold bs
  rw [BI.bigSep_univ_equiv finSumFinEquiv Φ, BI.bigSep_univ_sum]
  simp only [finSumFinEquiv_apply_left, finSumFinEquiv_apply_right]
  rfl
/-- The four batches of a family. -/
theorem bs_batches (Φ : Fin 31 → sProp 𝕄) :
    bs Φ = iprop((bs fun i => Φ (at8 0 8 (by decide) i)) ∗ (bs fun i => Φ (at8 1 8 (by decide) i))
      ∗ (bs fun i => Φ (at8 2 8 (by decide) i)) ∗ bs fun i => Φ (at8 3 7 (by decide) i)) := by
  rw [bs_add 8 23 Φ, bs_add 8 15 fun i : Fin 23 => Φ (i.natAdd 8), bs_add 8 7 fun i : Fin 15 => Φ ((i.natAdd 8).natAdd 8)]
  have e (m n : ℕ) (h) (f : Fin n → Fin 31) (hf : ∀ i, (f i).val = 8 * m + i.val) : (bs fun i => Φ (f i)) = bs fun i => Φ (at8 m n h i) :=
    BI.bigSep_congr fun i _ => congrArg Φ (Fin.ext (hf i))
  refine congrArg₂ BI.sep (e 0 8 (by decide) _ fun i => ?_) (congrArg₂ BI.sep (e 1 8 (by decide) _ fun i => ?_)
    (congrArg₂ BI.sep (e 2 8 (by decide) _ fun i => ?_) (e 3 7 (by decide) _ fun i => ?_)))
  · show i.val = 8 * 0 + i.val; omega
  · show 8 + i.val = 8 * 1 + i.val; omega
  · show 8 + (8 + i.val) = 8 * 2 + i.val; omega
  · show 8 + (8 + (8 + i.val)) = 8 * 3 + i.val; omega

/-! ## What is still owed lies above what is waited on -/

theorem left_pos {t : Fin 31 → CellTallies nD τ sig Unit} {n : ℕ} {g : GSem nD τ sig} {u : Unit} (h : 0 < left t n g u) : ∃ i, 0 < t i g u := by
  by_contra hn
  have hz : ∀ i, t i g u = 0 := fun i => Nat.eq_zero_of_not_pos fun hi => hn ⟨i, hi⟩
  have : left t n g u = 0 := by
    unfold left
    rw [Finset.sum_apply, Finsupp.finset_sum_apply]
    refine Finset.sum_eq_zero fun i _ => ?_
    split
    · exact hz i
    · rfl
  omega
theorem tally_pos {g g' : GSem nD τ sig} {k : ℕ} {u : Unit} (h : 0 < (tallyAt g () k : CellTallies nD τ sig Unit) g' u) : g' = g := by
  by_contra hn
  rw [tallyAt_ne_cell hn] at h
  exact Nat.lt_irrefl _ h
theorem tP_above (c : Dev nD) (n : ℕ) (g : GSem nD τ sig) (u : Unit) (h : 0 < left (tP c) n g u) : u ∈ L g ∧ 2 < lv g u := by
  obtain ⟨i, hi⟩ := left_pos h
  rw [tally_pos hi, L_tc, lv_d]
  exact ⟨Finset.mem_singleton_self _, by decide⟩
theorem tX_above (c : Dev nD) (n : ℕ) (g : GSem nD τ sig) (u : Unit) (h : 0 < left (tX c) n g u) : u ∈ L g ∧ 1 < lv g u := by
  obtain ⟨i, hi⟩ := left_pos h
  rw [tally_pos hi, L_tc, lv_d]
  exact ⟨Finset.mem_singleton_self _, by decide⟩
theorem tR_above (c : Dev nD) (n : ℕ) (g : GSem nD τ sig) (u : Unit) (h : 0 < left (tR c) n g u) : u ∈ L g ∧ 1 < lv g u := by
  obtain ⟨i, hi⟩ := left_pos h
  rw [tally_pos hi, L_tc, lv_d]
  exact ⟨Finset.mem_singleton_self _, by decide⟩
theorem all_above (c : Dev nD) (g : GSem nD τ sig) (u : Unit) (h : 0 < (left (tP c) 0 + left (tX c) 0 + left (tR c) 0) g u) :
    u ∈ L g ∧ 1 < lv g u := by
  rw [Pi.add_apply, Pi.add_apply, Finsupp.add_apply, Finsupp.add_apply] at h
  by_cases hP : 0 < left (tP c) 0 g u
  · exact ⟨(tP_above c 0 g u hP).1, Nat.lt_of_succ_lt (tP_above c 0 g u hP).2⟩
  by_cases hX : 0 < left (tX c) 0 g u
  · exact tX_above c 0 g u hX
  exact tR_above c 0 g u (by omega)
theorem none_above (k : ℕ) (g : GSem nD τ sig) (u : Unit) (h : 0 < (0 : CellTallies nD τ sig Unit) g u) : u ∈ L g ∧ k < lv g u :=
  absurd h (Nat.lt_irrefl _)

/-! ## Sequencing -/

/-- A piece of the body, then the rest. -/
theorem thenW (c : Dev nD) (p : PR F) (k : PUnit → PR F) (K : PUnit → sProp 𝕄) : WP c p (fun _ => WP c (k ⟨⟩) K) ⊢ WP c (p >>= k) K :=
  Entails.of_eq (wp_bind ..).symm

/-- A sweep, then the rest. -/
theorem sweep (c : Dev nD) (R : sProp 𝕄) [BI.Persistent R] (n : ℕ) (f : Fin n → PR F) (S : ℕ → sProp 𝕄) (Pre Post : Fin n → sProp 𝕄)
    (h : ∀ (i : Fin n) (K : PUnit → sProp 𝕄), iprop(R ∗ S i.val ∗ Pre i ∗ (iprop(S (i.val + 1) ∗ Post i) -∗ K ⟨⟩)) ⊢ WP c (f i) K)
    (k : PUnit → PR F) (K : PUnit → sProp 𝕄) :
    iprop(R ∗ S 0 ∗ bs Pre ∗ (iprop(S n ∗ bs Post) -∗ WP c (k ⟨⟩) K)) ⊢ WP c (seqFin n f >>= k) K :=
  (seqFin_wp c R n f S Pre Post h _).trans (thenW c _ k K)

variable (v : Ins F) (N : GSem nD τ sig → ℕ)

abbrev tokS (c : Dev nD) (i : Fin 31) : sProp 𝕄 := dutyTok ER (barCell (fwd c (i.val + 1))) 0 i
abbrev tokR (c : Dev nD) (i : Fin 31) : sProp 𝕄 :=
  iprop(dutyTok ER (dCell c 2 i.castSucc) 0 0 ∗ dutyTok ER (dCell (fwd c (i.val + 1)) 3 i.castSucc) 0 0)
abbrev tokX (c : Dev nD) (i : Fin 31) : sProp 𝕄 :=
  iprop(dutyTok ER (dCell c 0 i.castSucc) 0 0 ∗ dutyTok ER (dCell (fwd c (i.val + 1)) 1 i.castSucc) 0 0)
abbrev tokP (c : Dev nD) (i : Fin 31) : sProp 𝕄 :=
  iprop(dutyTok ER (dCell c 4 i.castSucc) 0 0 ∗ dutyTok ER (dCell (fwd c (31 - i.val)) 5 i.castSucc) 0 0)
abbrev pos (c : Dev nD) (k : Fin 6) (r : ℕ) (i : Fin 31) : sProp 𝕄 := atPos ER (dCell c k i.castSucc) r ∅ 0
/-- A slot of another device, with its receive cell's open round. -/
abbrev landX (c : Dev nD) (i : Fin 31) : sProp 𝕄 :=
  iprop((∃ f, xgPts (F := F) (fwd c (i.val + 1)) i.castSucc f) ∗ reached ER (dCell (fwd c (i.val + 1)) 1 i.castSucc) 0)
abbrev landR (c : Dev nD) (i : Fin 31) : sProp 𝕄 :=
  iprop((∃ f, rgPts (F := F) (fwd c (i.val + 1)) i.castSucc f) ∗ reached ER (dCell (fwd c (i.val + 1)) 3 i.castSucc) 0)
abbrev landP (c : Dev nD) (i : Fin 31) : sProp 𝕄 :=
  iprop((∃ f, pbPts (F := F) (fwd c (31 - i.val)) i.castSucc f) ∗ reached ER (dCell (fwd c (31 - i.val)) 5 i.castSucc) 0)

/-! ## The barrier -/

theorem bar_out (c : Dev nD) : (bs fun i => barPay (F := F) c i) ⊢ iprop(bs (landX c) ∗ bs (landR c) ∗ bs (landP (F := F) c)) := by
  have h (i : Fin 31) : barPay c i ⊢ (iprop(landX c i.rev ∗ landR c i.rev ∗ landP c i) : sProp 𝕄) := by
    unfold barPay landX landR landP
    have e : i.rev.val + 1 = 31 - i.val := by have := i.isLt; rw [Fin.val_rev]; omega
    rw [e]
    iintro ⟨Hx, Hr, Hp, H1, H3, H5⟩
    isplitl [Hx H1]
    · isplitl [Hx]; · iexact Hx
      iexact H1
    isplitl [Hr H3]
    · isplitl [Hr]; · iexact Hr
      iexact H3
    isplitl [Hp]; · iexact Hp
    iexact H5
  refine (bs_mono h).trans (Entails.of_eq ?_)
  exact (bs_sep (fun i => landX c i.rev) (fun i => iprop(landR c i.rev ∗ landP c i))).trans (congrArg₂ BI.sep (bs_rev (landX c)).symm
    ((bs_sep (fun i => landR c i.rev) (landP c)).trans (congrArg₂ BI.sep (bs_rev (landR c)).symm rfl)))

theorem sig_in (c : Dev nD) :
    iprop(bs (tokS (F := F) c) ∗ (bs fun i => iprop(∃ f, xgPts c i.castSucc f)) ∗ (bs fun i => iprop(∃ f, rgPts c i.castSucc f))
      ∗ (bs fun i => iprop(∃ f, pbPts c i.castSucc f))) ⊢ bs (sigPre (F := F) c) := by
  rw [bs_rev (fun i : Fin 31 => iprop(∃ f, xgPts (F := F) c i.castSucc f)), bs_rev (fun i : Fin 31 => iprop(∃ f, rgPts (F := F) c i.castSucc f)),
    ← bs_sep, ← bs_sep, ← bs_sep]
  exact BI.Entails.refl _

theorem bar_phase (c : Dev nD) (k : PUnit → PR F) (K : PUnit → sProp 𝕄) :
    iprop(know v N c ∗ owing c (O₀ c) ∗ bs (tokS c) ∗ (cred (tallyAt (barCell c) () 31) ∗ atPos ER (barCell c) 0 ∅ 0)
        ∗ ((bs fun i => iprop(∃ f, xgPts c i.castSucc f)) ∗ (bs fun i => iprop(∃ f, rgPts c i.castSucc f)) ∗ (bs fun i => iprop(∃ f, pbPts c i.castSucc f)))
        ∗ (iprop(owing c (left (tP c) 0 + left (tX c) 0 + left (tR c) 0) ∗ atPos ER (barCell c) 1 ∅ 0 ∗ bs (landX c) ∗ bs (landR c) ∗ bs (landP c))
            -∗ WP c (k ⟨⟩) K))
      ⊢ WP c (seqFin 31 (sigOp c) >>= fun _ => semWaitWord barS.sem 31#32 >>= k) K := by
  iintro ⟨#HR, HO, Ht, Hb, ⟨Hx, Hr, Hp⟩, HK⟩
  ihave Hs := (sig_in (F := F) c) $$ [Ht Hx Hr Hp]
  · isplitl [Ht]; · iexact Ht
    isplitl [Hx]; · iexact Hx
    isplitl [Hr]; · iexact Hr
    iexact Hp
  iapply (sweep c (know v N c) 31 (sigOp c) (fun n => owing c (left (tP c) 0 + left (tX c) 0 + left (tR c) 0 + left (tSig c) n)) (sigPre c) (fun _ => iprop(emp))
    (fun i K => sig_step v N c _ i K) _ K) $$ [HO Hb Hs HK]
  isplitr; · iexact HR
  isplitl [HO]; · iexact HO
  isplitl [Hs]; · iexact Hs
  rw [left_31, add_zero]
  iintro ⟨HO, -⟩
  iapply ((bar_step v N c _ (all_above c) _).trans (thenW c _ k K)) $$ [HO Hb HK]
  isplitr; · iexact HR
  isplitl [HO]; · iexact HO
  isplitl [Hb]; · iexact Hb
  iintro ⟨HO, Ha, Hp⟩
  iapply HK
  isplitl [HO]; · iexact HO
  isplitl [Ha]; · iexact Ha
  iapply (bar_out c)
  iexact Hp

/-! ## The gathers -/

theorem sendR_in (c : Dev nD) :
    iprop((bs fun i => rPts v c i.castSucc) ∗ bs (landR c) ∗ bs (tokR c)) ⊢ bs (sendRPre v c) := by
  rw [← bs_sep, ← bs_sep]
  refine bs_mono fun i => ?_
  unfold sendRPre
  iintro ⟨Hx, ⟨Hl, Hr⟩, Ht, Hu⟩
  isplitl [Hx]; · iexact Hx
  isplitl [Hl]; · iexact Hl
  isplitl [Hr]; · iexact Hr
  isplitl [Ht]; · iexact Ht
  iexact Hu
theorem sendX_in (c : Dev nD) :
    iprop((bs fun i => xPts v c i.castSucc) ∗ bs (landX c) ∗ bs (tokX c)) ⊢ bs (sendXPre v c) := by
  rw [← bs_sep, ← bs_sep]
  refine bs_mono fun i => ?_
  unfold sendXPre
  iintro ⟨Hx, ⟨Hl, Hr⟩, Ht, Hu⟩
  isplitl [Hx]; · iexact Hx
  isplitl [Hl]; · iexact Hl
  isplitl [Hr]; · iexact Hr
  isplitl [Ht]; · iexact Ht
  iexact Hu
/-- A credit for kind `k`'s landing in slot `i`. -/
abbrev kCred (c : Dev nD) (k : Fin 6) (i : Fin 31) : sProp 𝕄 := cred (tallyAt (dCell c k i.castSucc) () (kAmt k))

theorem gather_phase (c : Dev nD) (k : PUnit → PR F) (K : PUnit → sProp 𝕄) :
    iprop(know v N c ∗ owing c (left (tP c) 0 + left (tX c) 0 + left (tR c) 0)
        ∗ ((bs fun i => rPts v c i.castSucc) ∗ bs (landR c) ∗ bs (tokR c)) ∗ ((bs fun i => xPts v c i.castSucc) ∗ bs (landX c) ∗ bs (tokX c))
        ∗ (iprop(owing c (left (tP c) 0) ∗ bs (kCred c 2) ∗ bs (kCred c 0)) -∗ WP c (k ⟨⟩) K))
      ⊢ WP c (seqFin 31 (sendROp c) >>= fun _ => seqFin 31 (sendXOp c) >>= k) K := by
  iintro ⟨#HR, HO, Hr, Hx, HK⟩
  ihave Hr := (sendR_in v c) $$ Hr
  ihave Hx := (sendX_in v c) $$ Hx
  iapply (sweep c (know v N c) 31 (sendROp c) (fun n => owing c (left (tP c) 0 + left (tX c) 0 + left (tR c) n)) (sendRPre v c) (kCred c 2)
    (fun i K => sendR_step v N c _ i K) _ K) $$ [HO Hr Hx HK]
  isplitr; · iexact HR
  isplitl [HO]; · iexact HO
  isplitl [Hr]; · iexact Hr
  rw [left_31, add_zero]
  iintro ⟨HO, Hr⟩
  iapply (sweep c (know v N c) 31 (sendXOp c) (fun n => owing c (left (tP c) 0 + left (tX c) n)) (sendXPre v c) (kCred c 0)
    (fun i K => sendX_step v N c _ i K) _ K) $$ [HO Hr Hx HK]
  isplitr; · iexact HR
  isplitl [HO]; · iexact HO
  isplitl [Hx]; · iexact Hx
  rw [left_31, add_zero]
  iintro ⟨HO, Hx⟩
  iapply HK
  isplitl [HO]; · iexact HO
  isplitl [Hr]; · iexact Hr
  iexact Hx

/-! ## One batch -/

theorem sendP_in (c : Dev nD) {n : ℕ} (f : Fin n → Fin 31) :
    iprop((bs fun i => paPts c (f i).castSucc (PA v c)) ∗ (bs fun i => landP c (f i)) ∗ (bs fun i => tokP c (f i))) ⊢ bs fun i => sendPPre v c (f i) := by
  rw [← bs_sep, ← bs_sep]
  refine bs_mono fun i => ?_
  unfold sendPPre
  iintro ⟨Hx, ⟨Hl, Hr⟩, Ht, Hu⟩
  isplitl [Hx]; · iexact Hx
  isplitl [Hl]; · iexact Hl
  isplitl [Hr]; · iexact Hr
  isplitl [Ht]; · iexact Ht
  iexact Hu

theorem landed_x (c : Dev nD) {n : ℕ} (f : Fin n → Fin 31) : (bs fun i => waitPost v c 1 (f i))
    = iprop((bs fun i => pos c 1 1 (f i)) ∗ bs fun i => xgPts c (f i).castSucc (XG v c)) :=
  bs_sep (fun i => pos c 1 1 (f i)) fun i => xgPts c (f i).castSucc (XG v c)

/-- A batch before, and after. -/
def roundPre (c : Dev nD) {n : ℕ} (b : Fin 4) (f : Fin n → Fin 31) (Ex : sProp 𝕄) : sProp 𝕄 :=
  iprop((bs fun i => waitPre c 1 (f i)) ∗ Ex ∗ (∃ g, paB c b g) ∗ (bs fun i => landP c (f i)) ∗ (bs fun i => tokP c (f i)))
def roundPost (c : Dev nD) {n : ℕ} (b : Fin 4) (f : Fin n → Fin 31) (Ey : sProp 𝕄) : sProp 𝕄 :=
  iprop((bs fun i => pos c 1 1 (f i)) ∗ xgB c b (XG v c) ∗ Ey ∗ (bs fun i => kCred c 4 (f i)))

theorem round_phase (c : Dev nD) (b : Fin 4) (n : ℕ) (h : 8 * b.val + n ≤ 31) (Ex Ey : sProp 𝕄)
    (hx : iprop((bs fun i => xgPts c (at8 b n h i).castSucc (XG v c)) ∗ Ex) ⊢ xgB c b (XG v c))
    (hy : paB c b (PA v c) ⊢ iprop((bs fun i => paPts c (at8 b n h i).castSucc (PA v c)) ∗ Ey))
    (k : PUnit → PR F) (K : PUnit → sProp 𝕄) :
    iprop(know v N c ∗ owing c (left (tP c) (8 * b.val)) ∗ wHeld v c ∗ roundPre c b (at8 b n h) Ex
        ∗ (iprop(owing c (left (tP c) (8 * b.val + n)) ∗ wHeld v c ∗ roundPost v c b (at8 b n h) Ey) -∗ WP c (k ⟨⟩) K))
      ⊢ WP c (roundOp c (RV v c) b n h >>= k) K := by
  refine BI.Entails.trans ?_ (thenW c _ k K)
  unfold roundOp roundPre roundPost
  show (_ : sProp 𝕄) ⊢ _
  iintro ⟨#HR, HO, Hw, ⟨HW, HE, Hp, Hl, Ht⟩, HK⟩
  iapply (sweep c (know v N c) n (fun i => waitXOp (at8 b n h i)) (fun _ => owing c (left (tP c) (8 * b.val))) (fun i => waitPre c 1 (at8 b n h i))
    (fun i => waitPost v c 1 (at8 b n h i)) (fun i K => waitX_step v N c _ (tP_above c _) (at8 b n h i) K)) $$ [HO Hw HW HE Hp Hl Ht HK]
  isplitr; · iexact HR
  isplitl [HO]; · iexact HO
  isplitl [HW]; · iexact HW
  iintro ⟨HO, HW⟩
  ihave HW := (Entails.of_eq (landed_x v c (at8 b n h))) $$ HW
  icases HW with ⟨Ha, HW⟩
  ihave Hx := hx $$ [HW HE]
  · isplitl [HW]; · iexact HW
    iexact HE
  iapply ((batch_step v c b _).trans (thenW c _ _ _)) $$ [HO Hw Ha Hx Hp Hl Ht HK]
  isplitl [Hw]; · iexact Hw
  isplitl [Hx]; · iexact Hx
  isplitl [Hp]; · iexact Hp
  iintro ⟨Hw, Hx, Hp⟩
  ihave Hp := hy $$ Hp
  icases Hp with ⟨Hp, HE⟩
  ihave Hs := (sendP_in v c (at8 b n h)) $$ [Hp Hl Ht]
  · isplitl [Hp]; · iexact Hp
    isplitl [Hl]; · iexact Hl
    iexact Ht
  iapply (seqFin_wp c (know v N c) n (fun i => sendPOp c (at8 b n h i)) (fun m => owing c (left (tP c) (8 * b.val + m))) (fun i => sendPPre v c (at8 b n h i))
    (fun i => kCred c 4 (at8 b n h i)) (fun i K => ?_)) $$ [HO Hw Ha Hx Hs HE HK]
  · have := sendP_step v N c 0 (at8 b n h i) K
    rw [zero_add, zero_add] at this
    exact this
  isplitr; · iexact HR
  isplitl [HO]; · iexact HO
  isplitl [Hs]; · iexact Hs
  iintro ⟨HO, Hc⟩
  iapply HK
  isplitl [HO]; · iexact HO
  isplitl [Hw]; · iexact Hw
  isplitl [Ha]; · iexact Ha
  isplitl [Hx]; · iexact Hx
  isplitl [HE]; · iexact HE
  iexact Hc

/-- The first three batches hold eight landed slots; the last one seven and the own. -/
theorem batch_x (c : Dev nD) (b : Fin 4) (h : 8 * b.val + 8 ≤ 31) :
    iprop((bs fun i => xgPts c (at8 b 8 h i).castSucc (XG v c)) ∗ emp) ⊢ xgB c b (XG v c) := by
  rw [xgB_slots]
  iintro ⟨H, -⟩
  iexact H
theorem batch_p (c : Dev nD) (b : Fin 4) (h : 8 * b.val + 8 ≤ 31) :
    paB c b (PA v c) ⊢ iprop((bs fun i => paPts c (at8 b 8 h i).castSucc (PA v c)) ∗ emp) := by
  rw [paB_slots]
  iintro H
  isplitl [H]; · iexact H
  iempintro
theorem last_x (c : Dev nD) : iprop((bs fun i => xgPts c (at8 3 7 (by decide) i).castSucc (XG v c)) ∗ xgPts c 31 (XG v c)) ⊢ xgB c 3 (XG v c) := by
  rw [xgB_slots, bigSep_last]
  iintro ⟨H, H31⟩
  isplitl [H31]; · iexact H31
  iexact H
theorem last_p (c : Dev nD) : paB c 3 (PA v c) ⊢ iprop((bs fun i => paPts c (at8 3 7 (by decide) i).castSucc (PA v c)) ∗ paPts c 31 (PA v c)) := by
  rw [paB_slots, bigSep_last]
  iintro ⟨H31, H⟩
  isplitl [H]; · iexact H
  iexact H31

/-! ## The ends -/

/-- The sums of what came back from the others. -/
theorem post_split (c : Dev nD) (k : Fin 6) : bs (waitPost v c k) = iprop(bs (pos c k 1) ∗ bs fun i => dmaPay v c k.val i.castSucc) := bs_sep ..

theorem wait_in (c : Dev nD) (k : Fin 6) : iprop(bs (kCred (F := F) c k) ∗ bs (pos c k 0)) ⊢ bs (waitPre (F := F) c k) := by
  rw [← bs_sep]; exact BI.Entails.refl _

theorem join (Φ : Fin 32 → sProp 𝕄) : iprop((bs fun i : Fin 31 => Φ i.castSucc) ∗ Φ 31) ⊢ bs Φ := by
  have e : bs Φ = iprop(Φ 31 ∗ bs fun i : Fin 31 => Φ i.castSucc) := bigSep_last 31 Φ
  rw [e]
  iintro ⟨H, H31⟩
  isplitl [H31]; · iexact H31
  iexact H

theorem done_phase (c : Dev nD) (K : PUnit → sProp 𝕄) :
    iprop(know v N c ∗ owing c 0 ∗ (bs (kCred c 2) ∗ bs (pos c 2 0)) ∗ (bs (kCred c 0) ∗ bs (pos c 0 0)) ∗ (bs (kCred c 4) ∗ bs (pos c 4 0))
        ∗ (iprop(owing c 0 ∗ (bs (pos c 2 1) ∗ bs fun i => rPts v c i.castSucc) ∗ (bs (pos c 0 1) ∗ bs fun i => xPts v c i.castSucc)
            ∗ (bs (pos c 4 1) ∗ bs fun i => paPts c i.castSucc (PA v c))) -∗ K ⟨⟩))
      ⊢ WP c (seqFin 31 doneROp >>= fun _ => seqFin 31 doneXOp >>= fun _ => seqFin 31 donePOp) K := by
  iintro ⟨#HR, HO, Hr, Hx, Hp, HK⟩
  ihave Hr := (wait_in (F := F) c 2) $$ Hr
  ihave Hx := (wait_in (F := F) c 0) $$ Hx
  ihave Hp := (wait_in (F := F) c 4) $$ Hp
  iapply (sweep c (know v N c) 31 doneROp (fun _ => owing c 0) (waitPre c 2) (waitPost v c 2) (fun i K => doneR_step v N c 0 (none_above _) i K)) $$ [HO Hr Hx Hp HK]
  isplitr; · iexact HR
  isplitl [HO]; · iexact HO
  isplitl [Hr]; · iexact Hr
  iintro ⟨HO, Hr⟩
  iapply (sweep c (know v N c) 31 doneXOp (fun _ => owing c 0) (waitPre c 0) (waitPost v c 0) (fun i K => doneX_step v N c 0 (none_above _) i K)) $$ [HO Hr Hx Hp HK]
  isplitr; · iexact HR
  isplitl [HO]; · iexact HO
  isplitl [Hx]; · iexact Hx
  iintro ⟨HO, Hx⟩
  iapply (seqFin_wp c (know v N c) 31 donePOp (fun _ => owing c 0) (waitPre c 4) (waitPost v c 4) (fun i K => doneP_step v N c 0 (none_above _) i K)) $$ [HO Hr Hx Hp HK]
  isplitr; · iexact HR
  isplitl [HO]; · iexact HO
  isplitl [Hp]; · iexact Hp
  iintro ⟨HO, Hp⟩
  iapply HK
  isplitl [HO]; · iexact HO
  isplitl [Hr]; · iapply (Entails.of_eq (post_split v c 2)); iexact Hr
  isplitl [Hx]; · iapply (Entails.of_eq (post_split v c 0)); iexact Hx
  iapply (Entails.of_eq (post_split v c 4)); iexact Hp

theorem parted (Φ : Fin 32 → sProp 𝕄) : bs Φ ⊢ iprop(Φ 31 ∗ bs fun i : Fin 31 => Φ i.castSucc) := Entails.of_eq (bigSep_last 31 Φ)

/-! ## The whole body -/

/-- The cells and what is owed, at the start and at the end. -/
def Start (c : Dev nD) : sProp 𝕄 :=
  iprop(owing c (O₀ c) ∗ bs (tokS c) ∗ (cred (tallyAt (barCell c) () 31) ∗ atPos ER (barCell c) 0 ∅ 0)
    ∗ bs (tokR c) ∗ bs (tokX c) ∗ bs (tokP c)
    ∗ bs (waitPre c 3) ∗ bs (waitPre c 1) ∗ bs (waitPre c 5) ∗ bs (pos c 2 0) ∗ bs (pos c 0 0) ∗ bs (pos c 4 0))
def Finish (c : Dev nD) : sProp 𝕄 :=
  iprop(owing c 0 ∗ atPos ER (barCell c) 1 ∅ 0 ∗ bs (pos c 0 1) ∗ bs (pos c 1 1) ∗ bs (pos c 2 1) ∗ bs (pos c 3 1) ∗ bs (pos c 4 1) ∗ bs (pos c 5 1))
/-- The four buffers that the blocks land in or are computed in. -/
def Bufs (c : Dev nD) : sProp 𝕄 := iprop((∃ f, xgAll c f) ∗ (∃ f, rgAll c f) ∗ (∃ f, paAll c f) ∗ (∃ f, pbAll c f))
/-- The staged arguments. -/
def Staged (c : Dev nD) : sProp 𝕄 :=
  iprop((((c : Thread nD τ).loc cc0_stg0_0) ↦{fullShare} (v.x c : S16x512.Idx → Elt F .f32))
    ∗ (((c : Thread nD τ).loc cc0_stg1_0) ↦{fullShare} (v.r c : S2x512.Idx → Elt F .f32)) ∗ wHeld v c)

theorem x_leaves (c : Dev nD) : (((c : Thread nD τ).loc cc0_stg0_0) ↦{fullShare} (v.x c : S16x512.Idx → Elt F .f32) : sProp 𝕄) = bs fun q => xPts v c q :=
  ShareLeaves.pointsTo_leaves _ _ 5 fullShare
theorem r_leaves (c : Dev nD) : (((c : Thread nD τ).loc cc0_stg1_0) ↦{fullShare} (v.r c : S2x512.Idx → Elt F .f32) : sProp 𝕄) = bs fun q => rPts v c q :=
  ShareLeaves.pointsTo_leaves _ _ 5 fullShare

/-- A buffer at some contents is its last slot and the others, each at some contents. -/
theorem slots_open {T : Type} (A : T → sProp 𝕄) (Φ : Fin 32 → T → sProp 𝕄) (h : ∀ f, A f = bs fun q => Φ q f) :
    iprop(∃ f, A f) ⊢ iprop((∃ f, Φ 31 f) ∗ bs fun i : Fin 31 => iprop(∃ f, Φ i.castSucc f)) := by
  iintro ⟨%f, H⟩
  ihave H := ((Entails.of_eq (h f)).trans (parted _)) $$ H
  icases H with ⟨H1, H⟩
  isplitl [H1]; · iexists f; iexact H1
  iapply (bs_mono (Φ := fun i : Fin 31 => Φ i.castSucc f) fun i => by iintro H; iexists f; iexact H)
  iexact H
theorem four (Φ : Fin 4 → sProp 𝕄) : bigSep Finset.univ Φ = iprop(Φ 0 ∗ Φ 1 ∗ Φ 2 ∗ Φ 3 ∗ emp) := by
  rw [bigSep_head, bigSep_head, bigSep_head, bigSep_head]
  rfl
theorem pa_open (c : Dev nD) : iprop(∃ f, paAll (F := F) c f)
    ⊢ iprop((∃ f, paB (F := F) c 0 f) ∗ (∃ f, paB (F := F) c 1 f) ∗ (∃ f, paB (F := F) c 2 f) ∗ (∃ f, paB (F := F) c 3 f)) := by
  iintro ⟨%f, H⟩
  ihave H := (Entails.of_eq ((paAll_batches c f).trans (four _))) $$ H
  icases H with ⟨H0, H1, H2, H3, -⟩
  isplitl [H0]; · iexists f; iexact H0
  isplitl [H1]; · iexists f; iexact H1
  isplitl [H2]; · iexists f; iexact H2
  iexists f; iexact H3
theorem xg_close (c : Dev nD) (f : S32x16x512.Idx → Elt F .f32) : iprop(xgB c 0 f ∗ xgB c 1 f ∗ xgB c 2 f ∗ xgB c 3 f) ⊢ xgAll (F := F) c f := by
  rw [(xgAll_batches c f).trans (four _)]
  iintro ⟨H0, H1, H2, H3⟩
  isplitl [H0]; · iexact H0
  isplitl [H1]; · iexact H1
  isplitl [H2]; · iexact H2
  isplitl [H3]; · iexact H3
  iempintro
theorem fours (Φ : Fin 31 → sProp 𝕄) :
    iprop((bs fun i => Φ (at8 0 8 (by decide) i)) ∗ (bs fun i => Φ (at8 1 8 (by decide) i))
      ∗ (bs fun i => Φ (at8 2 8 (by decide) i)) ∗ bs fun i => Φ (at8 3 7 (by decide) i)) ⊢ bs Φ := Entails.of_eq (bs_batches Φ).symm

/-- The routers, once all have landed. -/
theorem load_phase (c : Dev nD) (k : Vec F S32x2x512 .f32 → PR F) (K : PUnit → sProp 𝕄) :
    iprop(rgAll c (RG v c) ∗ (rgAll c (RG v c) -∗ WP c (k (rgM.view.readAt (Elt F) rectRA.toLoadRect (RG v c))) K))
      ⊢ WP c (Prog.lift (.load rgM rectRA.toLoadRect (View.loadsAt_vmem h_S32x2x512)) >>= k) K :=
  ld c rgM rectRA.toLoadRect _ k (f := RG v c) (Finset.subset_univ _) K

/-- The four batches. -/
theorem batches_phase (c : Dev nD) (k : PUnit → PR F) (K : PUnit → sProp 𝕄) :
    iprop(know v N c ∗ owing c (left (tP c) 0) ∗ wHeld v c ∗ bs (waitPre c 1) ∗ xgPts c 31 (XG v c) ∗ (∃ f, paAll c f) ∗ bs (landP c) ∗ bs (tokP c)
        ∗ (iprop(owing c 0 ∗ wHeld v c ∗ bs (pos c 1 1) ∗ xgAll c (XG v c) ∗ paPts c 31 (PA v c) ∗ bs (kCred c 4)) -∗ WP c (k ⟨⟩) K))
      ⊢ WP c (roundOp c (RV v c) 0 8 (by decide) >>= fun _ => roundOp c (RV v c) 1 8 (by decide) >>= fun _ => roundOp c (RV v c) 2 8 (by decide)
          >>= fun _ => roundOp c (RV v c) 3 7 (by decide) >>= k) K := by
  rw [bs_batches (waitPre c 1), bs_batches (landP c), bs_batches (tokP c)]
  iintro ⟨#HR, HO, Hw, ⟨HW0, HW1, HW2, HW3⟩, Hown, Hp, ⟨Hl0, Hl1, Hl2, Hl3⟩, ⟨Ht0, Ht1, Ht2, Ht3⟩, HK⟩
  ihave Hp := (pa_open (F := F) c) $$ Hp
  icases Hp with ⟨Hp0, Hp1, Hp2, Hp3⟩
  iapply (round_phase v N c 0 8 _ iprop(emp) iprop(emp) (batch_x v c 0 _) (batch_p v c 0 _) _ K) $$ [-]
  isplitr; · iexact HR
  isplitl [HO]; · iexact HO
  isplitl [Hw]; · iexact Hw
  isplitl [HW0 Hp0 Hl0 Ht0]
  · unfold roundPre
    isplitl [HW0]; · iexact HW0
    isplitr; · iempintro
    isplitl [Hp0]; · iexact Hp0
    isplitl [Hl0]; · iexact Hl0
    iexact Ht0
  unfold roundPost
  iintro ⟨HO, Hw, Ha0, Hx0, -, Hc0⟩
  iapply (round_phase v N c 1 8 _ iprop(emp) iprop(emp) (batch_x v c 1 _) (batch_p v c 1 _) _ K) $$ [-]
  isplitr; · iexact HR
  isplitl [HO]; · iexact HO
  isplitl [Hw]; · iexact Hw
  isplitl [HW1 Hp1 Hl1 Ht1]
  · unfold roundPre
    isplitl [HW1]; · iexact HW1
    isplitr; · iempintro
    isplitl [Hp1]; · iexact Hp1
    isplitl [Hl1]; · iexact Hl1
    iexact Ht1
  unfold roundPost
  iintro ⟨HO, Hw, Ha1, Hx1, -, Hc1⟩
  iapply (round_phase v N c 2 8 _ iprop(emp) iprop(emp) (batch_x v c 2 _) (batch_p v c 2 _) _ K) $$ [-]
  isplitr; · iexact HR
  isplitl [HO]; · iexact HO
  isplitl [Hw]; · iexact Hw
  isplitl [HW2 Hp2 Hl2 Ht2]
  · unfold roundPre
    isplitl [HW2]; · iexact HW2
    isplitr; · iempintro
    isplitl [Hp2]; · iexact Hp2
    isplitl [Hl2]; · iexact Hl2
    iexact Ht2
  unfold roundPost
  iintro ⟨HO, Hw, Ha2, Hx2, -, Hc2⟩
  iapply (round_phase v N c 3 7 _ (xgPts c 31 (XG v c)) (paPts c 31 (PA v c)) (last_x v c) (last_p v c) _ K) $$ [-]
  isplitr; · iexact HR
  isplitl [HO]; · iexact HO
  isplitl [Hw]; · iexact Hw
  isplitl [HW3 Hp3 Hl3 Ht3 Hown]
  · unfold roundPre
    isplitl [HW3]; · iexact HW3
    isplitl [Hown]; · iexact Hown
    isplitl [Hp3]; · iexact Hp3
    isplitl [Hl3]; · iexact Hl3
    iexact Ht3
  unfold roundPost
  iintro ⟨HO, Hw, Ha3, Hx3, Hown, Hc3⟩
  iapply HK
  isplitl [HO]
  · iapply (Entails.of_eq (congrArg (owing c) (left_31 (tP c)))); iexact HO
  isplitl [Hw]; · iexact Hw
  isplitl [Ha0 Ha1 Ha2 Ha3]
  · iapply (fours (pos c 1 1))
    isplitl [Ha0]; · iexact Ha0
    isplitl [Ha1]; · iexact Ha1
    isplitl [Ha2]; · iexact Ha2
    iexact Ha3
  isplitl [Hx0 Hx1 Hx2 Hx3]
  · iapply (xg_close c (XG v c))
    isplitl [Hx0]; · iexact Hx0
    isplitl [Hx1]; · iexact Hx1
    isplitl [Hx2]; · iexact Hx2
    iexact Hx3
  isplitl [Hown]; · iexact Hown
  iapply (fours (kCred c 4))
  isplitl [Hc0]; · iexact Hc0
  isplitl [Hc1]; · iexact Hc1
  isplitl [Hc2]; · iexact Hc2
  iexact Hc3

theorem device_phase (c : Dev nD) (k : Dev nD → PR F) (K : PUnit → sProp 𝕄) : WP c (k c) K ⊢ WP c (Prog.lift .deviceId >>= k) K :=
  Entails.of_eq (wp_deviceId ..).symm

theorem post_r (c : Dev nD) : bs (waitPost v c 3) ⊢ iprop(bs (pos c 3 1) ∗ bs fun i => rgPts c i.castSucc (RG v c)) := Entails.of_eq (post_split v c 3)
theorem post_p (c : Dev nD) : bs (waitPost v c 5) ⊢ iprop(bs (pos c 5 1) ∗ bs fun i => pbPts c i.castSucc (PB v c)) := Entails.of_eq (post_split v c 5)
theorem rg_join (c : Dev nD) : iprop((bs fun i : Fin 31 => rgPts c i.castSucc (RG v c)) ∗ rgPts c 31 (RG v c)) ⊢ rgAll c (RG v c) :=
  (join fun q => rgPts c q (RG v c)).trans (Entails.of_eq (rgAll_slots c _).symm)
theorem pa_join (c : Dev nD) : iprop((bs fun i : Fin 31 => paPts c i.castSucc (PA v c)) ∗ paPts c 31 (PA v c)) ⊢ paAll c (PA v c) :=
  (join fun q => paPts c q (PA v c)).trans (Entails.of_eq (paAll_slots c _).symm)
theorem pb_join (c : Dev nD) : iprop((bs fun i : Fin 31 => pbPts c i.castSucc (PB v c)) ∗ pbPts c 31 (PB v c)) ⊢ pbAll c (PB v c) :=
  (join fun q => pbPts c q (PB v c)).trans (Entails.of_eq (pbAll_slots c _).symm)

theorem body_wp (c : Dev nD) (K : PUnit → sProp 𝕄) :
    iprop(know v N c ∗ Start c ∗ Bufs c ∗ Staged v c ∗ (∃ f, outPts c f)
        ∗ (iprop(Finish c ∗ Bufs c ∗ Staged v c ∗ outPts c (OUT v c)) -∗ K ⟨⟩)) ⊢ WP c model K := by
  unfold Start Bufs Staged model
  rw [x_leaves, r_leaves]
  iintro ⟨#HR, ⟨HO, Hts, Hbar, Htr, Htx, Htp, Hw3, Hw1, Hw5, Ha2, Ha0, Ha4⟩, ⟨Hxg, Hrg, Hpa, Hpb⟩, ⟨Hx, Hr, Hw⟩, Hout, HK⟩
  ihave Hxg := (slots_open _ (fun q f => xgPts c q f) (xgAll_slots c)) $$ Hxg
  ihave Hrg := (slots_open _ (fun q f => rgPts c q f) (rgAll_slots c)) $$ Hrg
  ihave Hpb := (slots_open _ (fun q f => pbPts c q f) (pbAll_slots c)) $$ Hpb
  icases Hxg with ⟨Hxo, Hxg⟩
  icases Hrg with ⟨Hro, Hrg⟩
  icases Hpb with ⟨Hpo, Hpb⟩
  ihave Hx := (parted fun q => xPts v c q) $$ Hx
  ihave Hr := (parted fun q => rPts v c q) $$ Hr
  icases Hx with ⟨Hx31, Hx⟩
  icases Hr with ⟨Hr31, Hr⟩
  iapply (device_phase c _ K)
  iapply (bar_phase v N c _ K) $$ [-]
  isplitr; · iexact HR
  isplitl [HO]; · iexact HO
  isplitl [Hts]; · iexact Hts
  isplitl [Hbar]; · iexact Hbar
  isplitl [Hxg Hrg Hpb]
  · isplitl [Hxg]; · iexact Hxg
    isplitl [Hrg]; · iexact Hrg
    iexact Hpb
  iintro ⟨HO, Hbar, Hlx, Hlr, Hlp⟩
  iapply (gather_phase v N c _ K) $$ [-]
  isplitr; · iexact HR
  isplitl [HO]; · iexact HO
  isplitl [Hr Hlr Htr]
  · isplitl [Hr]; · iexact Hr
    isplitl [Hlr]; · iexact Hlr
    iexact Htr
  isplitl [Hx Hlx Htx]
  · isplitl [Hx]; · iexact Hx
    isplitl [Hlx]; · iexact Hlx
    iexact Htx
  iintro ⟨HO, Hc2, Hc0⟩
  iapply ((own_step v c _).trans (thenW c _ _ K)) $$ [-]
  unfold ownHeld
  isplitl [Hx31 Hr31]
  · isplitl [Hx31]; · iexact Hx31
    iexact Hr31
  isplitl [Hxo]; · iexact Hxo
  isplitl [Hro]; · iexact Hro
  iintro ⟨⟨Hx31, Hr31⟩, Hxo, Hro⟩
  iapply (sweep c (know v N c) 31 waitROp (fun _ => owing c (left (tP c) 0)) (waitPre c 3) (waitPost v c 3)
    (fun i K => waitR_step v N c _ (tP_above c 0) i K) _ K) $$ [-]
  isplitr; · iexact HR
  isplitl [HO]; · iexact HO
  isplitl [Hw3]; · iexact Hw3
  iintro ⟨HO, Hw3⟩
  ihave Hw3 := (post_r v c) $$ Hw3
  icases Hw3 with ⟨Ha3, Hrg⟩
  ihave Hrg := (rg_join v c) $$ [Hrg Hro]
  · isplitl [Hrg]; · iexact Hrg
    iexact Hro
  iapply (load_phase v c _ K) $$ [-]
  isplitl [Hrg]; · iexact Hrg
  iintro Hrg
  iapply (batches_phase v N c _ K) $$ [-]
  isplitr; · iexact HR
  isplitl [HO]; · iexact HO
  isplitl [Hw]; · iexact Hw
  isplitl [Hw1]; · iexact Hw1
  isplitl [Hxo]; · iexact Hxo
  isplitl [Hpa]; · iexact Hpa
  isplitl [Hlp]; · iexact Hlp
  isplitl [Htp]; · iexact Htp
  iintro ⟨HO, Hw, Ha1, Hxg, Hpa, Hc4⟩
  iapply ((keep_step v c _).trans (thenW c _ _ K)) $$ [-]
  isplitl [Hpa]; · iexact Hpa
  isplitl [Hpo]; · iexact Hpo
  iintro ⟨Hpa, Hpo⟩
  iapply (sweep c (know v N c) 31 waitPOp (fun _ => owing c 0) (waitPre c 5) (waitPost v c 5)
    (fun i K => waitP_step v N c _ (none_above _) i K) _ K) $$ [-]
  isplitr; · iexact HR
  isplitl [HO]; · iexact HO
  isplitl [Hw5]; · iexact Hw5
  iintro ⟨HO, Hw5⟩
  ihave Hw5 := (post_p v c) $$ Hw5
  icases Hw5 with ⟨Ha5, Hpb⟩
  ihave Hpb := (pb_join v c) $$ [Hpb Hpo]
  · isplitl [Hpb]; · iexact Hpb
    iexact Hpo
  iapply ((sum_step v c _).trans (thenW c _ _ K)) $$ [-]
  isplitl [Hpb]; · iexact Hpb
  isplitl [Hout]; · iexact Hout
  iintro ⟨Hpb, Hout⟩
  iapply (done_phase v N c K) $$ [-]
  isplitr; · iexact HR
  isplitl [HO]; · iexact HO
  isplitl [Hc2 Ha2]
  · isplitl [Hc2]; · iexact Hc2
    iexact Ha2
  isplitl [Hc0 Ha0]
  · isplitl [Hc0]; · iexact Hc0
    iexact Ha0
  isplitl [Hc4 Ha4]
  · isplitl [Hc4]; · iexact Hc4
    iexact Ha4
  iintro ⟨HO, ⟨Ha2, Hr⟩, ⟨Ha0, Hx⟩, ⟨Ha4, Hp⟩⟩
  iapply HK
  unfold Finish
  isplitl [HO Hbar Ha0 Ha1 Ha2 Ha3 Ha4 Ha5]
  · isplitl [HO]; · iexact HO
    isplitl [Hbar]; · iexact Hbar
    isplitl [Ha0]; · iexact Ha0
    isplitl [Ha1]; · iexact Ha1
    isplitl [Ha2]; · iexact Ha2
    isplitl [Ha3]; · iexact Ha3
    isplitl [Ha4]; · iexact Ha4
    iexact Ha5
  isplitl [Hxg Hrg Hpa Hp Hpb]
  · isplitl [Hxg]; · iexists _; iexact Hxg
    isplitl [Hrg]; · iexists _; iexact Hrg
    isplitl [Hpa Hp]
    · iexists _; iapply (pa_join v c)
      isplitl [Hp]; · iexact Hp
      iexact Hpa
    iexists _; iexact Hpb
  isplitr [Hout]
  · isplitl [Hx Hx31]
    · iapply (join fun q => xPts v c q)
      isplitl [Hx]; · iexact Hx
      iexact Hx31
    isplitl [Hr Hr31]
    · iapply (join fun q => rPts v c q)
      isplitl [Hr]; · iexact Hr
      iexact Hr31
    iexact Hw
  iexact Hout

end Cert.KernelIdeal.Run

end
-- ==== Proof.Region.lean ====
/-
  The kernel as one region of the program: what it finds in its arrays, its cells opened on entry and closed on leaving,
  and its result written back.
-/
module

public import proofs.«01_k».proof.Proof.Body
public import proofs.«01_k».proof.Proof.Gen.KernelIdeal.Frame
public import Idealize.ShloMosaic.Lib.Pipeline.ValueKit

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F] [Named F]
local notation "𝕄" => MT nD τ sig Unit (Elt F) ℕ UU ℕ

/-! ## The own cells -/

abbrev osem : Fin 6 × Fin 32 → SemLoc sig := fun p => .dma (kcell p.1 p.2)

theorem kcell_inj {p p' : Fin 6 × Fin 32} (h : kcell p.1 p.2 = kcell p'.1 p'.2) : p = p' :=
  Prod.ext (Fin.ext (by rw [← kindOf_kcell p.1 p.2, h, kindOf_kcell])) (by rw [← slotOf_kcell p.1 p.2, h, slotOf_kcell])

theorem ownSemFacts : Pipeline.OwnSemFacts spec0 osem where
  isScoped := by decide +kernel
  inj := fun p p' h => kcell_inj (SemLoc.dma.inj h)
  disj := by decide +kernel

variable (v : Ins F) (N : GSem nD τ sig → ℕ)

/-- Every own cell's position, the live ones at round `r`. -/
def allPos (c : Dev nD) (r : ℕ) : sProp 𝕄 :=
  bigSep Finset.univ fun p : Fin 6 × Fin 32 => atPos ER (dCell c p.1 p.2) (if p.2 = 31 then 0 else r) ∅ 0

def lastPos (c : Dev nD) : sProp 𝕄 := bs fun k : Fin 6 => atPos ER (dCell c k 31) 0 ∅ 0

theorem six (Φ : Fin 6 → sProp 𝕄) : bs Φ = iprop(Φ 0 ∗ Φ 1 ∗ Φ 2 ∗ Φ 3 ∗ Φ 4 ∗ Φ 5) :=
  bigSep_univ_eq_bigSepL [0, 1, 2, 3, 4, 5] (by decide) (by decide) Φ

theorem allPos_eq (c : Dev nD) (r : ℕ) : (allPos c r : sProp 𝕄)
    = iprop(lastPos c ∗ bs (pos c 0 r) ∗ bs (pos c 1 r) ∗ bs (pos c 2 r) ∗ bs (pos c 3 r) ∗ bs (pos c 4 r) ∗ bs (pos c 5 r)) := by
  have e (k : Fin 6) : (bs fun q : Fin 32 => (atPos ER (dCell c k q) (if q = 31 then 0 else r) ∅ 0 : sProp 𝕄))
      = iprop(atPos ER (dCell c k 31) 0 ∅ 0 ∗ bs (pos c k r)) :=
    (bigSep_last 31 fun q : Fin 32 => (atPos ER (dCell c k q) (if q = 31 then 0 else r) ∅ 0 : sProp 𝕄)).trans
      (congrArg₂ BI.sep (congrArg (fun n => (atPos ER (dCell c k 31) n ∅ 0 : sProp 𝕄)) (if_pos rfl)) (BI.bigSep_congr fun i _ => by rw [if_neg (castSucc_ne i)]))
  unfold allPos lastPos
  rw [BI.bigSep_univ_prod, BI.bigSep_congr (s := Finset.univ) fun (k : Fin 6) _ => e k]
  exact (bs_sep _ _).trans (congrArg (BI.sep _) (six fun k => bs (pos c k r)))

theorem ownSems_eq (c : Dev nD) : (Pipeline.ownSems0 osem c : sProp 𝕄) = bigSep Finset.univ fun p : Fin 6 × Fin 32 => semVal (dCell c p.1 p.2) 0 := rfl

/-- Once no duty is left, the own cells' counters are back, all at zero, and so is the barrier's. -/
theorem close_all (c : Dev nD) : iprop(know v N c ∗ allPos c 1 ∗ atPos ER (barCell c) 1 ∅ 0)
    ⊢ (|={Set.univ}=> iprop(Pipeline.ownSems0 osem c ∗ semVal (barCell c) 0) : sProp 𝕄) := by
  have hd (p : Fin 6 × Fin 32) (r : ℕ) (hr : (if p.2 = 31 then 0 else 1) ≤ r) : (Rd v).duties (dCell c p.1 p.2) r = ∅ := by
    obtain ⟨k, q⟩ := p
    by_cases hq : q = 31
    · subst hq; exact duties_last v c k r
    · rw [if_neg hq] at hr; exact duties_later v _ r hr
  have hi : (know v N c : sProp 𝕄) ⊢ bigSep Finset.univ fun p : Fin 6 × Fin 32 => cellInv ER (Rd v) (N (dCell c p.1 p.2)) (dCell c p.1 p.2) :=
    (BI.bigSep_of_persistent Finset.univ (know v N c)).trans (BI.bigSep_mono fun p _ => know_d v N c c p.1 p.2)
  rw [ownSems_eq]
  iintro ⟨#HR, Ha, Hb⟩
  ihave #Hi := hi $$ HR
  ihave #HB := (know_bar v N c c) $$ HR
  imod (Rounds.cell_close ER (Rd v) (Set.mem_univ (N (barCell c))) (fun h => h) (R := 1) (duties_later v (barCell c))) $$ [Hb] with Hb
  · isplitr; · iexact HB
    iexact Hb
  imod (Rounds.cells_close ER (Rd v) Finset.univ (fun p : Fin 6 × Fin 32 => dCell c p.1 p.2) (fun p => N (dCell c p.1 p.2))
      (fun _ _ => Set.mem_univ _) (fun _ _ h => h) (fun p => if p.2 = 31 then 0 else 1) (fun p _ r hr => hd p r hr)) $$ [Ha] with Ho
  · rw [BI.bigSep_sep']
    isplitr; · iexact Hi
    unfold allPos; iexact Ha
  imodintro
  isplitl [Ho]; · iexact Ho
  iexact Hb

/-! ## Entering and leaving -/

/-- What the launch hands a device: the cells' invariants, the barriers' rounds, its own cells dormant, its tokens and its credit. -/
def Tk (c : Dev nD) : sProp 𝕄 :=
  iprop((∃ N, recs v N ∗ (bigSep Finset.univ fun d : Dev nD => reached ER (barCell d) 0))
    ∗ (bigSep Finset.univ fun p : Fin 6 × Fin 32 => openTok ER (dCell c p.1 p.2)) ∗ atPos ER (barCell c) 0 ∅ 0
    ∗ (bs (tokS c) ∗ bs (tokR c) ∗ bs (tokX c) ∗ bs (tokP c))
    ∗ cred (tallyAt (barCell c) () 31) ∗ bs (kCred c 3) ∗ bs (kCred c 1) ∗ bs (kCred c 5))
def Xk (c : Dev nD) : sProp 𝕄 :=
  iprop((∃ N, know v N c) ∗ allPos c 0 ∗ atPos ER (barCell c) 0 ∅ 0
    ∗ (bs (tokS c) ∗ bs (tokR c) ∗ bs (tokX c) ∗ bs (tokP c))
    ∗ cred (tallyAt (barCell c) () 31) ∗ bs (kCred c 3) ∗ bs (kCred c 1) ∗ bs (kCred c 5))
def Yk (c : Dev nD) : sProp 𝕄 := semVal (barCell c) 0

theorem hopen (c : Dev nD) : iprop(Tk v c ∗ Pipeline.ownSems0 osem c ∗ levAts L lv) ⊢ (|={Set.univ}=> Xk v c : sProp 𝕄) := by
  have hi (N) : (recs v N : sProp 𝕄) ⊢ bigSep Finset.univ fun p : Fin 6 × Fin 32 => cellInv ER (Rd v) (N (dCell c p.1 p.2)) (dCell c p.1 p.2) :=
    (BI.bigSep_of_persistent Finset.univ (recs v N)).trans (BI.bigSep_mono fun p _ =>
      bigSep_elim (Φ := fun p : CI => cellInv ER (Rd v) (N (cellI p)) (cellI p)) (Finset.mem_univ ((c, .inr (p.1, p.2)) : CI)))
  unfold Tk Xk
  rw [ownSems_eq]
  iintro ⟨⟨⟨%N, #HI, #HB⟩, Ho, Hat, Ht, Hc⟩, Hs, #HL⟩
  ihave #Hi := (hi N) $$ HI
  imod (Rounds.cells_open ER (Rd v) Finset.univ (fun p : Fin 6 × Fin 32 => dCell c p.1 p.2) (fun p => N (dCell c p.1 p.2))
      (fun _ _ => Set.mem_univ _)) $$ [Ho Hs] with Hp
  · isplitl [Ho]
    · rw [BI.bigSep_sep']
      isplitr; · iexact Hi
      iexact Ho
    iexact Hs
  ihave Hp := (Entails.of_eq (BI.bigSep_sep' Finset.univ (fun p : Fin 6 × Fin 32 => (atPos ER (dCell c p.1 p.2) 0 ∅ 0 : sProp 𝕄)) fun p => reached ER (dCell c p.1 p.2) 0)) $$ Hp
  icases Hp with ⟨Hp, #Hr⟩
  imodintro
  isplitr
  · iexists N; unfold know
    isplitr; · iexact HI
    isplitr; · iexact HL
    isplitr; · iexact HB
    iexact Hr
  isplitl [Hp]
  · unfold allPos; simp only [ite_self]; iexact Hp
  isplitl [Hat]; · iexact Hat
  isplitl [Ht]; · iexact Ht
  iexact Hc

theorem start_of (c : Dev nD) : iprop(owing c (O₀ c) ∗ allPos c 0 ∗ atPos ER (barCell c) 0 ∅ 0
      ∗ (bs (tokS c) ∗ bs (tokR c) ∗ bs (tokX c) ∗ bs (tokP c))
      ∗ cred (tallyAt (barCell c) () 31) ∗ bs (kCred c 3) ∗ bs (kCred c 1) ∗ bs (kCred c 5))
    ⊢ (iprop(Start c ∗ lastPos c) : sProp 𝕄) := by
  rw [allPos_eq]
  unfold Start
  iintro ⟨HO, ⟨Hl, H0, H1, H2, H3, H4, H5⟩, Hb, ⟨Ts, Tr, Tx, Tp⟩, Cb, C3, C1, C5⟩
  ihave W3 := (wait_in c 3) $$ [C3 H3]
  · isplitl [C3] <;> iassumption
  ihave W1 := (wait_in c 1) $$ [C1 H1]
  · isplitl [C1] <;> iassumption
  ihave W5 := (wait_in c 5) $$ [C5 H5]
  · isplitl [C5] <;> iassumption
  isplitr [Hl]
  · isplitl [HO]; · iexact HO
    isplitl [Ts]; · iexact Ts
    isplitl [Cb Hb]; · isplitl [Cb] <;> iassumption
    isplitl [Tr]; · iexact Tr
    isplitl [Tx]; · iexact Tx
    isplitl [Tp]; · iexact Tp
    isplitl [W3]; · iexact W3
    isplitl [W1]; · iexact W1
    isplitl [W5]; · iexact W5
    isplitl [H2]; · iexact H2
    isplitl [H0]; · iexact H0
    iexact H4
  iexact Hl

theorem finish_to (c : Dev nD) : iprop(Finish c ∗ lastPos c) ⊢ (iprop(owing c 0 ∗ allPos c 1 ∗ atPos ER (barCell c) 1 ∅ 0) : sProp 𝕄) := by
  rw [allPos_eq]
  unfold Finish
  iintro ⟨⟨HO, Hb, H⟩, Hl⟩
  isplitl [HO]; · iexact HO
  isplitr [Hb]
  · isplitl [Hl]; · iexact Hl
    iexact H
  iexact Hb

/-! ## The region's data -/

variable (m : (ℓ : Loc nD τ sig) → Buf (Elt F) ℓ)

/-- What the region finds in the arrays it stages. -/
def insOf : Ins F where
  x c := V m c main_arg0
  r c := V m c main_v1
  u c := V m c main_v2
  d c := V m c main_v3

/-- Before the kernel's one point, and after it. -/
def Φ₀ (c : Dev nD) : sProp 𝕄 := iprop(Xk (insOf m) c ∗ Bufs c ∗ ∃ r, prngReg c r)
def Φ₁ (c : Dev nD) : sProp 𝕄 := iprop((Pipeline.ownSems0 osem c ∗ semVal (barCell c) 0) ∗ Bufs c ∗ ∃ r, prngReg c r)

def dat (c : Dev nD) : Dat τ (Elt F) Unit ℕ UU ℕ cfg0 c where
  A w := V m c (Pipeline.arrRef spec0 w)
  after w _ := match w with
    | ⟨0, _⟩ => (insOf m).x c
    | ⟨1, _⟩ => (insOf m).r c
    | ⟨2, _⟩ => (insOf m).u c
    | ⟨3, _⟩ => (insOf m).d c
    | ⟨4, _⟩ => OUT (insOf m) c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats (p : Fin 1) (c : Dev nD) : Dat τ (Elt F) Unit ℕ UU ℕ (Pipeline.pin (pcfgs (F := F)) adm p) c := dat m c

/-- Every window's one block is its whole array. -/
theorem idx : ∀ t : Fin cfg0.N, win0_0.index t = ![0, 0] ∧ win0_1.index t = ![0, 0] ∧ win0_2.index t = ![0, 0, 0] ∧ win0_3.index t = ![0, 0, 0]
    ∧ win0_4.index t = ![0, 0] :=
  (by decide +kernel : ∀ t : Fin grid0.N, _)

theorem block_0 (c : Dev nD) : iblk m c 0 t0_0 = V m c main_arg0 := by blk_ext! [iblk, idx t0_0]
theorem block_1 (c : Dev nD) : iblk m c 1 t0_0 = V m c main_v1 := by blk_ext! [iblk, idx t0_0]
theorem block_2 (c : Dev nD) : iblk m c 2 t0_0 = V m c main_v2 := by blk_ext! [iblk, idx t0_0]
theorem block_3 (c : Dev nD) : iblk m c 3 t0_0 = V m c main_v3 := by blk_ext! [iblk, idx t0_0]

theorem before_0 (c : Dev nD) (d) : (dat m c).before (0 : Fin 5) t0_0 d = (insOf m).x c := by
  unfold Dat.before; rw [if_pos (fetch0_0 t0_0)]; exact block_0 m c
theorem before_1 (c : Dev nD) (d) : (dat m c).before (1 : Fin 5) t0_0 d = (insOf m).r c := by
  unfold Dat.before; rw [if_pos (fetch0_1 t0_0)]; exact block_1 m c
theorem before_2 (c : Dev nD) (d) : (dat m c).before (2 : Fin 5) t0_0 d = (insOf m).u c := by
  unfold Dat.before; rw [if_pos (fetch0_2 t0_0)]; exact block_2 m c
theorem before_3 (c : Dev nD) (d) : (dat m c).before (3 : Fin 5) t0_0 d = (insOf m).d c := by
  unfold Dat.before; rw [if_pos (fetch0_3 t0_0)]; exact block_3 m c

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (Nat.succ_ne_zero _)

/-- What the pipeline hands the kernel, and what it takes back. -/
def bodyPre (c : Dev nD) : sProp 𝕄 :=
  iprop(Φ₀ m c ∗ (dat m c).owesAt () t0_0.castSucc ∗ Staged (insOf m) c ∗ ∃ f, outPts c f)
def bodyPost (c : Dev nD) : sProp 𝕄 :=
  iprop(Φ₁ c ∗ (dat m c).owesAt () t0_0.succ ∗ Staged (insOf m) c ∗ outPts c (OUT (insOf m) c))

theorem sound (c : Dev nD) : bodyPre m c ⊢ WP c model fun _ => bodyPost m c := by
  refine BI.Entails.trans ?_ (wp_fupd _ _ _ _ _)
  show (_ : sProp 𝕄) ⊢ _
  unfold bodyPre bodyPost Φ₀ Φ₁ Xk Dat.owesAt Pipeline.owesWithin
  rw [owed_first, owed_last]
  iintro ⟨⟨⟨⟨%N, #HR⟩, Hx⟩, Hb, Hp⟩, ⟨%W, -, HO⟩, Hs, Hout⟩
  ihave HS := (start_of c) $$ [HO Hx]
  · isplitl [HO]
    · unfold owing; iexists W; iexact HO
    iexact Hx
  icases HS with ⟨HS, Hl⟩
  iapply (body_wp (insOf m) N c _) $$ [-]
  isplitr; · iexact HR
  isplitl [HS]; · iexact HS
  isplitl [Hb]; · iexact Hb
  isplitl [Hs]; · iexact Hs
  isplitl [Hout]; · iexact Hout
  iintro ⟨Hf, Hb, Hs, Hout⟩
  ihave Hf := (finish_to c) $$ [Hf Hl]
  · isplitl [Hf] <;> iassumption
  icases Hf with ⟨HO, Ha, Hbar⟩
  imod (close_all (insOf m) N c) $$ [Ha Hbar] with Hz
  · isplitr; · iexact HR
    isplitl [Ha] <;> iassumption
  imodintro
  isplitl [Hz Hb Hp]
  · isplitl [Hz]; · iexact Hz
    isplitl [Hb] <;> iassumption
  isplitl [HO]
  · unfold owing
    icases HO with ⟨%W', HO⟩
    iexists W'
    isplitr; · ipureintro; exact fun _ _ => Or.inl trivial
    iexact HO
  isplitl [Hs] <;> iassumption

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The same with the five staged blocks as the pipeline words them. -/
def winPre (c : Dev nD) : sProp 𝕄 :=
  iprop(Φ₀ m c ∗ (dat m c).owesAt () t0_0.castSucc
    ∗ (∃ d, stg c cc0_stg0_0 ((dat m c).before (0 : Fin 5) t0_0 d)) ∗ (∃ d, stg c cc0_stg1_0 ((dat m c).before (1 : Fin 5) t0_0 d))
    ∗ (∃ d, stg c cc0_stg2_0 ((dat m c).before (2 : Fin 5) t0_0 d)) ∗ (∃ d, stg c cc0_stg3_0 ((dat m c).before (3 : Fin 5) t0_0 d))
    ∗ (∃ d, stg c cc0_stg4_0 ((dat m c).before (4 : Fin 5) t0_0 d)))
def winPost (c : Dev nD) : sProp 𝕄 :=
  iprop(Φ₁ c ∗ (dat m c).owesAt () t0_0.succ
    ∗ stg c cc0_stg0_0 ((insOf m).x c) ∗ stg c cc0_stg1_0 ((insOf m).r c) ∗ stg c cc0_stg2_0 ((insOf m).u c) ∗ stg c cc0_stg3_0 ((insOf m).d c)
    ∗ stg c cc0_stg4_0 (OUT (insOf m) c))

theorem pre_of (c : Dev nD) : winPre m c ⊢ bodyPre m c := by
  unfold winPre bodyPre Staged wHeld
  iintro ⟨HΦ, HO, ⟨%d0, %f0, %h0, H0⟩, ⟨%d1, %f1, %h1, H1⟩, ⟨%d2, %f2, %h2, H2⟩, ⟨%d3, %f3, %h3, H3⟩, ⟨%d4, %f4, -, H4⟩⟩
  obtain rfl := h0.trans (before_0 m c d0)
  obtain rfl := h1.trans (before_1 m c d1)
  obtain rfl := h2.trans (before_2 m c d2)
  obtain rfl := h3.trans (before_3 m c d3)
  isplitl [HΦ]; · iexact HΦ
  isplitl [HO]; · iexact HO
  isplitr [H4]
  · isplitl [H0]; · iexact H0
    isplitl [H1]; · iexact H1
    isplitl [H2] <;> iassumption
  iexists f4; iexact H4
theorem stg_of (c : Dev nD) (b : Ref sig .tc) (X : b.ty.Contents (Elt F)) : (((c : Thread nD τ).loc b) ↦{fullShare} X : sProp 𝕄) ⊢ stg c b X := by
  iintro H
  iexists X
  isplitr; · ipureintro; rfl
  iexact H
theorem post_of (c : Dev nD) : bodyPost m c ⊢ winPost m c := by
  unfold winPost bodyPost Staged wHeld
  iintro ⟨HΦ, HO, ⟨H0, H1, H2, H3⟩, H4⟩
  isplitl [HΦ]; · iexact HΦ
  isplitl [HO]; · iexact HO
  isplitl [H0]; · iapply (stg_of c cc0_stg0_0 _); iexact H0
  isplitl [H1]; · iapply (stg_of c cc0_stg1_0 _); iexact H1
  isplitl [H2]; · iapply (stg_of c cc0_stg2_0 _); iexact H2
  isplitl [H3]; · iapply (stg_of c cc0_stg3_0 _); iexact H3
  iapply (stg_of c cc0_stg4_0 _); iexact H4

set_option maxRecDepth 100000 in
theorem obligation (c : Dev nD) : BodyObligation (dat m c) (defs₀ (F := F)) 𝒱₀ () Set.univ := fun t => by
  rw [fin_N0 t]
  rw [bigSep_W0, bigSep_W0]
  simp only [owns_whole]
  show winPre m c ⊢ wp frame (wpE (defs₀ (F := F)) 𝒱₀ c none) Set.univ (bodyAt0 (F := F) t0_0) fun _ => winPost m c
  rw [body_eq]
  exact (pre_of m c).trans ((sound m c).trans (wp_mono _ _ _ fun _ => post_of m c))

/-! ## The arrays afterwards -/

/-- Every buffer when the region is entered, and when it is left. -/
def V₁ (c : Dev nD) : Valuation τ sig (Elt F) := StableHlo.after hostOps0 (fun b => m (c, b))
def V₂ (c : Dev nD) : Valuation τ sig (Elt F) := Function.update (V₁ m c) (Proc.devRef .tc main_v4) (OUT (insOf m) c)

theorem V₂_ne (c : Dev nD) (b : DevRef τ sig) (h : b ≠ Proc.devRef .tc main_v4) : V₂ m c b = V₁ m c b := Function.update_of_ne h _ _
theorem V₂_out (c : Dev nD) : V₂ m c (Proc.devRef .tc main_v4) = OUT (insOf m) c := Function.update_self ..

theorem final (c : Dev nD) : (dat m c).arrAt (4 : Fin 5) cfg0.N = OUT (insOf m) c := by
  refine (dat m c).arrAt_eq_of_after_last (4 : Fin 5) t0_0 (by decide +kernel) _ fun j => ?_
  blk_simp
  rfl

theorem arr_before (c : Dev nD) (w : Fin 5) : (dat m c).arrAt w 0 = V₁ m c (Proc.devRef .tc (Pipeline.arrRef spec0 w)) := rfl
theorem arr_after (c : Dev nD) : ∀ w : Fin 5, (dat m c).arrAt w cfg0.N = V₂ m c (Proc.devRef .tc (Pipeline.arrRef spec0 w))
  | 0 => ((dat m c).arrAt_in (0 : Fin 5) rfl _).trans (V₂_ne m c (Proc.devRef .tc main_arg0) (by decide)).symm
  | 1 => ((dat m c).arrAt_in (1 : Fin 5) rfl _).trans (V₂_ne m c (Proc.devRef .tc main_v1) (by decide)).symm
  | 2 => ((dat m c).arrAt_in (2 : Fin 5) rfl _).trans (V₂_ne m c (Proc.devRef .tc main_v2) (by decide)).symm
  | 3 => ((dat m c).arrAt_in (3 : Fin 5) rfl _).trans (V₂_ne m c (Proc.devRef .tc main_v3) (by decide)).symm
  | 4 => (final m c).trans (V₂_out m c).symm

/-! ## The region -/

theorem owed_0 (c : Dev nD) : (pdats m 0 c).owed 0 = O₀ c := owed_first m c
theorem owed_N (c : Dev nD) : (pdats m 0 c).owed (Fin.last _) = 0 := owed_last m c

theorem owed_above (c : Dev nD) (g : GSem nD τ sig) (u : Unit) (h : 0 < O₀ c g u) : u ∈ L g ∧ (0 : ℕ) < lv g u := by
  unfold O₀ at h
  rw [Pi.add_apply, Finsupp.add_apply] at h
  rcases Nat.add_pos_iff_pos_or_pos.mp h with h | h
  · exact ⟨(all_above c g u h).1, lt_trans Nat.zero_lt_one (all_above c g u h).2⟩
  · obtain ⟨i, hi⟩ := left_pos h
    obtain rfl := tally_pos hi
    exact ⟨by rw [L_tc]; exact Finset.mem_singleton_self _, Nat.zero_lt_one⟩

theorem cut (c : Dev nD) (t : Fin ((Pipeline.pin (pcfgs (F := F)) adm 0).N + 1)) (g : GSem nD τ sig) (u : Unit) (h : 0 < (pdats m 0 c).owed t g u) :
    u ∈ L g ∧ (0 : ℕ) < lv g u := by
  have e : (pdats m 0 c).owed t = if t.val = 0 then O₀ c else 0 := rfl
  rw [e] at h
  split at h
  · exact owed_above c g u h
  · exact absurd h (Nat.lt_irrefl 0)

theorem bufs_rest (c : Dev nD) : (Pipeline.scopedRest (Pipeline.pin (pcfgs (F := F)) adm 0).spec c : sProp 𝕄) = Bufs c := scopedRest0_eq c

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
    ∗ StableHlo.held (c.tc : Thread nD τ) ∅ (V₁ m c) ∗ Xk (insOf m) c) ⊢ (pdats m 0 c).Φ 0 := by
  rw [show (pdats m 0 c).Φ 0 = Φ₀ m c from rfl, bufs_rest]
  unfold Φ₀
  iintro ⟨Hb, Hp, -, Hx⟩
  isplitl [Hx]; · iexact Hx
  isplitl [Hb] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = Φ₁ c from rfl, bufs_rest, held_none]
  unfold Φ₁ Yk
  iintro ⟨⟨Ho, Hb0⟩, Hb, Hp⟩
  isplitl [Hb]; · iexact Hb
  isplitl [Hp]; · iexact Hp
  isplitr; · iempintro
  isplitl [Ho] <;> iassumption

abbrev restRefs : Finset (DevRef τ sig) := Pipeline.ucRefs τ sig \ Pipeline.arrRefs spec0

theorem out_mem : (Proc.devRef .tc main_v4 : DevRef τ sig) ∈ Pipeline.arrRefs (τ := τ) spec0 :=
  Finset.mem_map_of_mem _ (Finset.mem_image_of_mem (Pipeline.arrRef spec0) (Finset.mem_univ (4 : Fin 5)))

/-- The staging transfers' semaphores lie lowest. -/
theorem stage_low : ∀ (w : Fin 5) (s : Fin (spec0 w).nbuf), lvS (.dma ((spec0 w).sem s)) = 0 := by decide +kernel

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ restRefs (Finset.empty_subset _) launch0.toP rfl (fun c => (obligation m c).loose)
    (fun _ => 0) O₀ (fun c => (owed_0 m c).trans (zero_add _).symm) (owed_N m) (fun _ => rfl) (fun c w => by unfold Dat.share; split <;> rfl)
    (V₁ m) (V₂ m) (fun c b hb => V₂_ne m c b fun e => (Finset.mem_sdiff.mp (Finset.mem_sdiff.mp hb).1).2 (e ▸ out_mem))
    (Tk (insOf m)) Yk (Xk (insOf m)) Yk (hopen (insOf m)) (hin m) (hout m)
    (fun c => by iintro H; imodintro; iexact H)
    (fun _ => 0)
    ⟨fun c w s => by rw [L_tc]; exact Finset.mem_singleton_self _, fun c w s => le_of_eq (stage_low w s), fun c t g u h => cut m c t g u h⟩
    (fun _ => iprop(emp))
    (arr_before m) (arr_after m)

end Cert.KernelIdeal.Run

end
-- ==== Proof.Launch.lean ====
/-
  The launch: every cell's invariant allocated, the duties' tokens and the launch credits dealt to the devices that use
  them, and the run of the whole program.
-/
module

public import proofs.«01_k».proof.Proof.Region

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F] [Named F]
local notation "𝕄" => MT nD τ sig Unit (Elt F) ℕ UU ℕ

/-! ## Cells and tokens -/

theorem bar_ne_d (c c' : Dev nD) (k : Fin 6) (q : Fin 32) : barCell c ≠ dCell c' k q := fun h =>
  nomatch (congrArg Prod.snd h : (SemLoc.reg barS.sem : SemLoc sig) = .dma (kcell k q))

def barEmb : Dev nD ↪ GSem nD τ sig := ⟨fun c => barCell c, fun _ _ h => congrArg (fun g : GSem nD τ sig => g.1.1) h⟩

theorem dCell_inj {c c' : Dev nD} {p p' : Fin 6 × Fin 32} (h : dCell c p.1 p.2 = dCell c' p'.1 p'.2) : c = c' ∧ p = p' :=
  ⟨congrArg (fun g : GSem nD τ sig => g.1.1) h, kcell_inj (SemLoc.dma.inj (congrArg Prod.snd h))⟩
def dEmb : Dev nD × Fin 6 × Fin 32 ↪ GSem nD τ sig :=
  ⟨fun x => dCell x.1 x.2.1 x.2.2, fun _ _ h => Prod.ext (dCell_inj h).1 (dCell_inj h).2⟩

abbrev barCells : Finset (GSem nD τ sig) := Finset.univ.map barEmb
abbrev dCells : Finset (GSem nD τ sig) := Finset.univ.map dEmb

theorem disjoint_cells : Disjoint (barCells : Finset (GSem nD τ sig)) dCells := by
  rw [Finset.disjoint_left]
  rintro g h₁ h₂
  obtain ⟨c, -, rfl⟩ := Finset.mem_map.mp h₁
  obtain ⟨x, -, h⟩ := Finset.mem_map.mp h₂
  exact bar_ne_d _ _ _ _ h.symm

/-- A duty: one of a barrier's 31 signals, or the one landing of a slot's semaphore. -/
abbrev Duty : Type := Fin 31 ⊕ Fin 6 × Fin 31
def dutyAt (c : Dev nD) : Duty → GSem nD τ sig × ℕ × Fin 31
  | .inl i => (barCell c, 0, i)
  | .inr (k, i) => (dCell c k i.castSucc, 0, 0)

theorem dutyAt_inj : Function.Injective fun x : Dev nD × Duty => dutyAt x.1 x.2 := by
  rintro ⟨c, u⟩ ⟨c', u'⟩ h
  match u, u' with
  | .inl i, .inl i' =>
    obtain rfl : c = c' := congrArg (fun t : GSem nD τ sig × ℕ × Fin 31 => t.1.1.1) h
    obtain rfl : i = i' := congrArg (fun t : GSem nD τ sig × ℕ × Fin 31 => t.2.2) h
    rfl
  | .inl i, .inr (k, i') => exact absurd (congrArg Prod.fst h) (bar_ne_d _ _ _ _)
  | .inr (k, i), .inl i' => exact absurd (congrArg Prod.fst h).symm (bar_ne_d _ _ _ _)
  | .inr (k, i), .inr (k', i') =>
    have hh := dCell_inj (p := (k, i.castSucc)) (p' := (k', i'.castSucc)) (congrArg Prod.fst h)
    obtain rfl := hh.1
    obtain ⟨rfl, h2⟩ := Prod.mk.inj hh.2
    obtain rfl := Fin.castSucc_injective _ h2
    rfl

def toksAll : Finset (GSem nD τ sig × ℕ × Fin 31) := Finset.univ.map ⟨fun x : Dev nD × Duty => dutyAt x.1 x.2, dutyAt_inj⟩

def u₀ : UU :=
  (initOf (Pipeline.cells (Pipeline.pin (pcfgs (F := F)) adm) Gen.cellOf_inj) (Pipeline.launchToks (Pipeline.pin (pcfgs (F := F)) adm) Gen.cellOf_inj),
    launchOf barCells dCells toksAll)

/-! ## Dealing around the ring -/

/-- The devices, each moved `n` on. -/
def rot (n : ℕ) (h : n ≤ 32) : Dev nD ≃ Dev nD where
  toFun c := fwd c n
  invFun c := fwd c (32 - n)
  left_inv c := fwd_back c _ _ (by omega)
  right_inv c := fwd_back c _ _ (by omega)

theorem around (Φ : Dev nD → Fin 31 → sProp 𝕄) (f : Fin 31 → ℕ) (hf : ∀ i, f i ≤ 32) :
    (bigSep Finset.univ fun c : Dev nD => bs fun i => Φ c i) = bigSep Finset.univ fun c : Dev nD => bs fun i => Φ (fwd c (f i)) i := by
  unfold bs
  rw [BI.bigSep_univ_comm, BI.bigSep_univ_comm fun (c : Dev nD) (i : Fin 31) => Φ (fwd c (f i)) i]
  exact BI.bigSep_congr fun i _ => BI.bigSep_univ_equiv (rot (f i) (hf i)) fun c => Φ c i

/-- The token of a landing, and of a signal. -/
abbrev tk (k : Fin 6) (c : Dev nD) (i : Fin 31) : sProp 𝕄 := dutyTok ER (dCell c k i.castSucc) 0 0
abbrev tkB (c : Dev nD) (i : Fin 31) : sProp 𝕄 := dutyTok ER (barCell c) 0 i

theorem toks_eq : bigSep toksAll (fun x => (dutyTok ER x.1 x.2.1 x.2.2 : sProp 𝕄))
    = bigSep Finset.univ fun c : Dev nD => iprop(bs (tkB c) ∗ bs (tk 0 c) ∗ bs (tk 1 c) ∗ bs (tk 2 c) ∗ bs (tk 3 c) ∗ bs (tk 4 c) ∗ bs (tk 5 c)) := by
  unfold toksAll
  rw [BI.bigSep_map, BI.bigSep_univ_prod]
  refine BI.bigSep_congr fun c _ => ?_
  rw [BI.bigSep_univ_sum]
  refine congrArg₂ BI.sep rfl ?_
  rw [BI.bigSep_univ_prod]
  exact six fun k => bs (tk k c)

theorem deal : (bigSep Finset.univ fun c : Dev nD => iprop(bs (tkB c) ∗ bs (tk 0 c) ∗ bs (tk 1 c) ∗ bs (tk 2 c) ∗ bs (tk 3 c) ∗ bs (tk 4 c) ∗ bs (tk 5 c)))
    ⊢ (bigSep Finset.univ fun c : Dev nD => iprop(bs (tokS c) ∗ bs (tokR c) ∗ bs (tokX c) ∗ bs (tokP c)) : sProp 𝕄) := by
  have h1 (i : Fin 31) : i.val + 1 ≤ 32 := by omega
  have h2 (i : Fin 31) : 31 - i.val ≤ 32 := by omega
  have eR (c : Dev nD) : bs (tokR c) = (iprop(bs (tk 2 c) ∗ bs fun i => tk 3 (fwd c (i.val + 1)) i) : sProp 𝕄) := bs_sep _ _
  have eX (c : Dev nD) : bs (tokX c) = (iprop(bs (tk 0 c) ∗ bs fun i => tk 1 (fwd c (i.val + 1)) i) : sProp 𝕄) := bs_sep _ _
  have eP (c : Dev nD) : bs (tokP c) = (iprop(bs (tk 4 c) ∗ bs fun i => tk 5 (fwd c (31 - i.val)) i) : sProp 𝕄) := bs_sep _ _
  simp only [eR, eX, eP, BI.bigSep_sep']
  rw [around (fun c i => tkB c i) _ h1, around (fun c i => tk 1 c i) _ h1, around (fun c i => tk 3 c i) _ h1, around (fun c i => tk 5 c i) _ h2]
  iintro ⟨HB, H0, H1, H2, H3, H4, H5⟩
  isplitl [HB]; · iexact HB
  isplitl [H2 H3]; · isplitl [H2] <;> iassumption
  isplitl [H0 H1]; · isplitl [H0] <;> iassumption
  isplitl [H4] <;> iassumption

/-! ## The launch credits -/

theorem O₀_eq : (O₀ : Dev nD → CellTallies nD τ sig Unit)
    = fun d => ((∑ i : Fin 31, tP d i) + (∑ i : Fin 31, tX d i) + ∑ i : Fin 31, tR d i) + ∑ i : Fin 31, tSig d i :=
  funext fun d => by unfold O₀; rw [left_0, left_0, left_0, left_0]

theorem cred_one (sm : SemLoc sig) (n : ℕ) (h : n ≤ 32) (k : ℕ) (c : Dev nD) :
    (Pipeline.launchCred (fun d => tallyAt (((fwd d n : Dev nD) : Thread nD τ), sm) () k) c : sProp 𝕄) ⊢ cred (tallyAt ((c : Thread nD τ), sm) () k) :=
  Pipeline.launchCred_tallyAt sm (fun d => fwd d n) (fun d => fwd d (32 - n)) (fun c => fwd_back c _ _ (by omega)) (fun c => fwd_back c _ _ (by omega)) () k c

theorem tally_31 (c : Dev nD) : (∑ _i : Fin 31, tallyAt (barCell c) () 1 : CellTallies nD τ sig Unit) = tallyAt (barCell c) () 31 := by
  unfold tallyAt tallyOn
  rw [Finset.sum_const, Finset.card_univ, Fintype.card_fin, ← Pi.single_smul, Finsupp.smul_single]
  rfl

theorem creds (c : Dev nD) : (Pipeline.launchCred O₀ c : sProp 𝕄)
    ⊢ iprop(cred (tallyAt (barCell c) () 31) ∗ bs (kCred c 3) ∗ bs (kCred c 1) ∗ bs (kCred c 5)) := by
  rw [O₀_eq, Pipeline.launchCred_add, Pipeline.launchCred_add, Pipeline.launchCred_add,
    Pipeline.launchCred_sum Finset.univ (fun i d => tP d i), Pipeline.launchCred_sum Finset.univ (fun i d => tX d i),
    Pipeline.launchCred_sum Finset.univ (fun i d => tR d i), Pipeline.launchCred_sum Finset.univ (fun i d => tSig d i),
    ← tally_31, Pipeline.cred_finsetSum]
  have hP : (bigSep Finset.univ fun i : Fin 31 => (Pipeline.launchCred (fun d => tP d i) c : sProp 𝕄)) ⊢ bs (kCred c 5) :=
    BI.bigSep_mono fun i _ => cred_one (.dma (kcell 5 i.castSucc)) (31 - i.val) (by omega) NX c
  have hX : (bigSep Finset.univ fun i : Fin 31 => (Pipeline.launchCred (fun d => tX d i) c : sProp 𝕄)) ⊢ bs (kCred c 1) :=
    BI.bigSep_mono fun i _ => cred_one (.dma (kcell 1 i.castSucc)) (i.val + 1) (by omega) NX c
  have hR : (bigSep Finset.univ fun i : Fin 31 => (Pipeline.launchCred (fun d => tR d i) c : sProp 𝕄)) ⊢ bs (kCred c 3) :=
    BI.bigSep_mono fun i _ => cred_one (.dma (kcell 3 i.castSucc)) (i.val + 1) (by omega) NR c
  have hS : (bigSep Finset.univ fun i : Fin 31 => (Pipeline.launchCred (fun d => tSig d i) c : sProp 𝕄)) ⊢ bs fun _ : Fin 31 => cred (tallyAt (barCell c) () 1) :=
    BI.bigSep_mono fun i _ => cred_one (.reg barS.sem) (i.val + 1) (by omega) 1 c
  iintro ⟨⟨⟨HP, HX⟩, HR⟩, HS⟩
  isplitl [HS]; · iapply hS $$ HS
  isplitl [HR]; · iapply hR $$ HR
  isplitl [HX]; · iapply hX $$ HX
  iapply hP $$ HP

/-! ## Each device's share of the launch -/

variable (m : (ℓ : Loc nD τ sig) → Buf (Elt F) ℓ) (ρ : Dev nD → PrngReg)

abbrev V₀ (c : Dev nD) : Valuation τ sig (Elt F) := fun b => m (c, b)

/-- What rides beside the buffers up to the region. -/
def R (c : Dev nD) : sProp 𝕄 := iprop(Tk (insOf m) c ∗ (∃ r, prngReg c r) ∗ ∃ W, owes (c : Thread nD τ) (O₀ c) W)
abbrev T₀ (c : Dev nD) : sProp 𝕄 := iprop(StableHlo.held (c : Thread nD τ) (Pipeline.ucRefs τ sig) (V₀ m c) ∗ R m c)
abbrev Tₙ (c : Dev nD) : sProp 𝕄 := iprop(StableHlo.held (c : Thread nD τ) (Pipeline.ucRefs τ sig) (V₂ m c) ∗ semVal (barCell c) 0)

theorem unscoped_eq : ∀ sm : SemLoc sig, sm.isScoped .tc = false → sm = .reg barS.sem := by decide +kernel
theorem scoped_bar : (SemLoc.reg barS.sem : SemLoc sig).isScoped .tc = false := by decide +kernel
theorem unscopedSems0_eq (c : Dev nD) : (unscopedSems0 c : sProp 𝕄) = semVal (barCell c) 0 := by
  unfold unscopedSems0
  have e : (Finset.univ.filter fun sm : SemLoc sig => ¬ sm.isScoped .tc) = {SemLoc.reg barS.sem} := by
    ext sm
    rw [Finset.mem_filter, Finset.mem_singleton]
    exact ⟨fun h => unscoped_eq sm (by simpa using h.2), fun h => ⟨Finset.mem_univ _, by rw [h, scoped_bar]; decide⟩⟩
  rw [e, BI.bigSep_singleton]

/-- The launch element as one device's. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [BI.bigSep_univ_at _ c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

abbrev LaunchElt : sProp 𝕄 := BI.own (ER (launchOf barCells dCells toksAll))
def G : Dev nD → sProp 𝕄 := onDev 0 LaunchElt
theorem G_eq : bigSep Finset.univ G = (LaunchElt : sProp 𝕄) := bigSep_onDev 0 _

/-- What every device may consult. -/
def shared (N : GSem nD τ sig → ℕ) : sProp 𝕄 := iprop(recs (insOf m) N ∗ bigSep Finset.univ fun d : Dev nD => reached ER (barCell d) 0)
instance shared_persistent (N : GSem nD τ sig → ℕ) : BI.Persistent (shared m N) := by unfold shared; infer_instance

/-- A device's part of the protocol's records. -/
def linear (c : Dev nD) : sProp 𝕄 :=
  iprop(atPos ER (barCell c) 0 ∅ 0 ∗ (bigSep Finset.univ fun p : Fin 6 × Fin 32 => openTok ER (dCell c p.1 p.2))
    ∗ (bs (tokS c) ∗ bs (tokR c) ∗ bs (tokX c) ∗ bs (tokP c)))
/-- Its other holdings. -/
def bundle (c : Dev nD) : sProp 𝕄 :=
  iprop(StableHlo.held (c : Thread nD τ) (Pipeline.ucRefs τ sig) (V₀ m c)
    ∗ (cred (tallyAt (barCell c) () 31) ∗ bs (kCred c 3) ∗ bs (kCred c 1) ∗ bs (kCred c 5))
    ∗ owes (c : Thread nD τ) (O₀ c) ∅ ∗ ∃ r, prngReg c r)

theorem T₀_intro (N : GSem nD τ sig → ℕ) (c : Dev nD) : iprop(shared m N ∗ (linear c ∗ bundle m c)) ⊢ T₀ m c := by
  unfold shared bundle linear T₀ R Tk
  iintro ⟨#HR, ⟨Ha, Ho, Ht⟩, Hh, Hc, HO, Hp⟩
  isplitl [Hh]; · iexact Hh
  isplitl [Ha Ho Ht Hc]
  · isplitr
    · iexists N; iexact HR
    isplitl [Ho]; · iexact Ho
    isplitl [Ha]; · iexact Ha
    isplitl [Ht] <;> iassumption
  isplitl [Hp]; · iexact Hp
  iexists ∅; iexact HO

theorem recs_of (N : GSem nD τ sig → ℕ) : (bigSep (barCells ∪ dCells) fun g => cellInv ER (Rd (insOf m)) (N g) g) ⊢ (recs (insOf m) N : sProp 𝕄) := by
  unfold recs
  refine (BI.bigSep_of_persistent (Finset.univ : Finset CI) _).trans (BI.bigSep_mono fun p _ => ?_)
  refine bigSep_elim (Φ := fun g => cellInv ER (Rd (insOf m)) (N g) g) ?_
  match p with
  | (c, .inl _) => exact Finset.mem_union_left _ (Finset.mem_map_of_mem barEmb (Finset.mem_univ c))
  | (c, .inr (k, q)) => exact Finset.mem_union_right _ (Finset.mem_map_of_mem dEmb (Finset.mem_univ (c, k, q)))

abbrev coreInit (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem core_split (c : Dev nD) : coreInit m ρ c ⊢ (iprop(bundle m c ∗ (semVal (barCell c) 0 ∗ G c)) : sProp 𝕄) := by
  unfold coreInit
  rw [show unscopedBufs c (fun b => m ((c : Thread nD τ).loc b)) = StableHlo.held (c : Thread nD τ) (Pipeline.ucRefs τ sig) (V₀ m c) from
    Pipeline.unscopedBufs_held c (V₀ m c), unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem bar_map (Φ : GSem nD τ sig → sProp 𝕄) : bigSep barCells Φ = bigSep Finset.univ fun c : Dev nD => Φ (barCell c) := BI.bigSep_map barEmb
theorem d_map (Φ : GSem nD τ sig → sProp 𝕄) :
    bigSep dCells Φ = bigSep Finset.univ fun c : Dev nD => bigSep Finset.univ fun p : Fin 6 × Fin 32 => Φ (dCell c p.1 p.2) :=
  (BI.bigSep_map dEmb).trans (BI.bigSep_univ_prod _)

theorem init : iprop((bigSep Finset.univ (coreInit m ρ)) ∗ levAts L lv) ⊢ (|={Set.univ}=> bigSep Finset.univ (T₀ m) : sProp 𝕄) := by
  have hs : bigSep Finset.univ (coreInit m ρ) ⊢ (iprop(bigSep Finset.univ (bundle m) ∗ (bigSep Finset.univ fun c : Dev nD => semVal (barCell c) 0) ∗ bigSep Finset.univ G) : sProp 𝕄) :=
    (BI.bigSep_mono fun c _ => core_split m ρ c).trans (Entails.of_eq ((BI.bigSep_sep' ..).trans (congrArg (BI.sep _) (BI.bigSep_sep' ..))))
  iintro ⟨H, -⟩
  ihave H' := hs $$ H
  icases H' with ⟨HB, Hv, HG⟩
  ihave Hu := (Entails.of_eq (G_eq (F := F))) $$ HG
  imod (Rounds.fund_launch ER (Rd (insOf m)) disjoint_cells (fun g _ h => h) toksAll) $$ [Hv Hu] with ⟨%N, -, #Hinv, Hr, Hat, Hopen, Htok⟩
  · isplitl [Hv]
    · iapply (Entails.of_eq (bar_map (F := F) fun g => semVal g 0).symm) $$ Hv
    · iexact Hu
  ihave Hr' := (Entails.of_eq (bar_map (F := F) fun g => reached ER g 0)) $$ Hr
  icases Hr' with #Hr'
  ihave Hat' := (Entails.of_eq (bar_map (F := F) fun g => atPos ER g 0 ∅ 0)) $$ Hat
  ihave Hopen' := (Entails.of_eq (d_map (F := F) fun g => openTok ER g)) $$ Hopen
  ihave Htok' := ((Entails.of_eq (toks_eq (F := F))).trans (deal (F := F))) $$ Htok
  imodintro
  iapply (bigSep_with_persistent (R := shared m N) (Φ := fun c => iprop(linear c ∗ bundle m c)) fun c _ => T₀_intro m N c)
  isplitr
  · unfold shared
    isplitr; · iapply (recs_of m N); iexact Hinv
    iexact Hr'
  iapply (Entails.of_eq (BI.bigSep_sep' (Finset.univ : Finset (Dev nD)) linear (bundle m)).symm)
  isplitr [HB]
  · unfold linear
    iapply (Entails.of_eq (BI.bigSep_sep' (Finset.univ : Finset (Dev nD)) (fun c => atPos ER (barCell c) 0 ∅ 0) _).symm)
    isplitl [Hat']; · iexact Hat'
    iapply (Entails.of_eq (BI.bigSep_sep' (Finset.univ : Finset (Dev nD)) (fun c => bigSep Finset.univ fun p : Fin 6 × Fin 32 => openTok ER (dCell c p.1 p.2)) _).symm)
    isplitl [Hopen'] <;> iassumption
  · iexact HB

/-! ## The program's two segments -/

def seg0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (List.forall_iff_forall_mem.mp hostOps0_fresh) (V₀ m) (R m)

theorem reg_pre (c : Dev nD) : iprop(StableHlo.held (c : Thread nD τ) (Pipeline.ucRefs τ sig) (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) restRefs (V₁ m c) ∗ emp) ∗ Tk (insOf m) c ∗ ∃ Wd, owes (c : Thread nD τ) (0 + O₀ c) Wd)
  rw [zero_add, StableHlo.held_sub_split (c : Thread nD τ) (Pipeline.arrRefs_sub_ucRefs spec0 (by decide)) (V₁ m c)]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c
    ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) restRefs (V₂ m c) ∗ emp) ∗ Yk c ∗ ∃ Wd, owes (c : Thread nD τ) (0 : CellTallies nD τ sig Unit) Wd) ⊢ _
  unfold Tₙ Yk
  rw [StableHlo.held_sub_split (c : Thread nD τ) (Pipeline.arrRefs_sub_ucRefs spec0 (by decide)) (V₂ m c)]
  iintro ⟨Ha, -, ⟨Hr, -⟩, Hb, HO⟩
  isplitr [HO]
  · isplitr [Hb]
    · isplitl [Ha] <;> iassumption
    iexact Hb
  iexact HO

abbrev segs : List (Pipeline.Seg (pcfgs (F := F)) adm (pdats m) () defs₀ 𝒱₀ L lv) := [.host (seg0 m), .region (reg m)]

/-! ## The run -/

abbrev pt (c : Dev nD) (b : Ref sig .tc) (W : Valuation τ sig (Elt F)) : sProp 𝕄 := ((c : Thread nD τ).loc b) ↦{fullShare} W (Proc.devRef .tc b)

theorem held_eq (c : Dev nD) (W : Valuation τ sig (Elt F)) : (StableHlo.held (c : Thread nD τ) (Pipeline.ucRefs τ sig) W : sProp 𝕄)
    = iprop(pt c main_arg0 W ∗ pt c main_arg1 W ∗ pt c main_arg2 W ∗ pt c main_arg3 W ∗ pt c main_v4 W ∗ pt c main_v1 W ∗ pt c main_v2 W ∗ pt c main_v3 W) := by
  unfold StableHlo.held
  rw [bigSep_eq_bigSepL_of_eq [Proc.devRef .tc main_arg0, Proc.devRef .tc main_arg1, Proc.devRef .tc main_arg2, Proc.devRef .tc main_arg3,
    Proc.devRef .tc main_v4, Proc.devRef .tc main_v1, Proc.devRef .tc main_v2, Proc.devRef .tc main_v3] (by decide) (by decide)]
  rfl

/-- What a final memory holds, read off. -/
def Post (r : PUnit × MemSt nD τ sig (Elt F)) : Prop :=
  (∀ c : Dev nD, r.2.mem ((c : Thread nD τ).loc main_v4) = OUT (insOf m) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

set_option backward.isDefEq.respectTransparency.types false in
/-- Every fair run ends, with the arguments as they were, the result computed, and every counter zero. -/
theorem run_main : θ_run (defs (F := F)) (onTc (τ := τ) (main (F := F))) ⟨m, fun _ => 0, ρ⟩ (Post m) :=
  Pipeline.θ_run_regions_kit_sems (pcfgs (F := F)) adm (pdats m) () Gen.cellOf_inj EP defs₀ 𝒱₀ L lv m ρ main (segs m)
    (fun c Q => by rw [main_segs adm (pdats m) () 𝒱₀ L lv (seg0 m) (reg m) rfl c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_eq]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_v4) = V₂ m c main_v4
      ∧ s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_arg3) = V₂ m c main_arg3)
      ∧ s.sem (barCell c) = 0)
    (hfin := fun c s' => by
      dsimp only [Tₙ]; rw [held_eq]
      iintro ⟨⟨⟨H0, H1, H2, H3, H4, -, -, -⟩, Hb0⟩, HSI⟩
      icombine HSI H0 gives %h0
      icombine HSI H1 gives %h1
      icombine HSI H2 gives %h2
      icombine HSI H3 gives %h3
      icombine HSI H4 gives %h4
      icombine HSI Hb0 gives %hb
      imodintro
      isplitr
      · ipureintro
        exact ⟨⟨Buf.eq_of_forall_mem_univ h4, Buf.eq_of_forall_mem_univ h0, Buf.eq_of_forall_mem_univ h1, Buf.eq_of_forall_mem_univ h2,
          Buf.eq_of_forall_mem_univ h3⟩, by simpa using hb⟩
      iexact HSI)
    (hQ := fun s h hs => ⟨fun c => by
        obtain ⟨⟨h4, h0, h1, h2, h3⟩, -⟩ := h c
        refine ⟨h4.trans (V₂_out m c), ?_, ?_, ?_, ?_⟩
        · exact (h0.trans (V₂_ne m c _ (by decide))).trans (V_main_arg0 m c)
        · exact (h1.trans (V₂_ne m c _ (by decide))).trans (V_main_arg1 m c)
        · exact (h2.trans (V₂_ne m c _ (by decide))).trans (V_main_arg2 m c)
        · exact (h3.trans (V₂_ne m c _ (by decide))).trans (V_main_arg3 m c),
      sem_eq_zero hs fun c sm hsm => by
        obtain rfl := unscoped_eq sm hsm
        exact (h c).2⟩)

end Cert.KernelIdeal.Run

end
-- ==== Proof.Exact.lean ====
/-
  The program as printed is the idealized one read at machine words, its named literal read as its bit pattern.
-/
module

public import proofs.«01_k».proof.Proof.Launch
public import proofs.«01_k».proof.Proof.Gen.Kernel
public import proofs.«01_k».proof.Defs

@[expose] public section

noncomputable section

namespace Cert.Exact

open Idealize.ShloMosaic Idealize.SL.Sem

/-- A named literal, at machine words, is its bit pattern. -/
@[reducible] def asBits : Named Bits where
  named _ _ {φ} b := Scalar.ofBits φ b

/-- The idealized program's frame at machine words. -/
def FrameAtBits : Prop :=
  letI := asBits
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frameAtBits : FrameAtBits := fun m g _ => by
  letI := asBits
  exact (θ_run _ _ _).mono (fun r h => ⟨fun c => (h.1 c).2, h.2⟩) (Cert.KernelIdeal.Run.run_main m g)

theorem frame_eq : Cert.quiescent_Kernel = FrameAtBits := by
  chain_rfl

end Cert.Exact

end
-- ==== Proof.Two.lean ====
/-
  The two best experts of one token. `Top2 g i j`: the gates `g` have `i` and `j` as their two best, both finite and above
  every other. The weights that the softmax of the two gives are then a function of `g` alone, whichever of two equal
  ones is called the first.
-/
module

public import Idealize.ShloMosaic.Lib.Pointwise
public import Idealize.ShloMosaic.Lib.SortFacts

@[expose] public section

noncomputable section

namespace Cert.Two

open Idealize.ShloMosaic

/-- The two best gates are those of `i` and `j`, finite and above every other one. -/
structure Top2 (g : Fin 64 → EReal) (i j : Fin 64) : Prop where
  ne : i ≠ j
  le : g j ≤ g i
  lt : ∀ k, k ≠ i → k ≠ j → g k < g j
  top : g i < ⊤

/-- The softmax of `a ≥ b` at `a`, and what expert `e` then weighs. -/
def wt (a b : EReal) : EReal := Ideal.div 1 (1 + Ideal.exp (b - a))
def cf (g : Fin 64 → EReal) (i j e : Fin 64) : EReal :=
  (if i = e then wt (g i) (g j) else 0) + (if j = e then 1 - wt (g i) (g j) else 0)

theorem third (i j : Fin 64) : ∃ k : Fin 64, k ≠ i ∧ k ≠ j := by
  have h : (({i, j} : Finset (Fin 64))ᶜ).Nonempty := by
    rw [← Finset.card_pos, Finset.card_compl, Fintype.card_fin]
    have := Finset.card_le_two (a := i) (b := j); omega
  obtain ⟨k, hk⟩ := h
  simp only [Finset.mem_compl, Finset.mem_insert, Finset.mem_singleton, not_or] at hk
  exact ⟨k, hk.1, hk.2⟩

theorem Top2.bot {g : Fin 64 → EReal} {i j : Fin 64} (h : Top2 g i j) : ⊥ < g j := by
  obtain ⟨k, h1, h2⟩ := third i j
  exact lt_of_le_of_lt bot_le (h.lt k h1 h2)

/-- Both gates are real numbers. -/
theorem Top2.real {g : Fin 64 → EReal} {i j : Fin 64} (h : Top2 g i j) : ∃ a b : ℝ, g i = a ∧ g j = b ∧ b ≤ a := by
  have hj := h.bot
  have hi : ⊥ < g i := lt_of_lt_of_le hj h.le
  have hjt : g j < ⊤ := lt_of_le_of_lt h.le h.top
  refine ⟨(g i).toReal, (g j).toReal, (EReal.coe_toReal h.top.ne hi.ne').symm, (EReal.coe_toReal hjt.ne hj.ne').symm, ?_⟩
  exact EReal.toReal_le_toReal h.le hj.ne' h.top.ne

theorem wt_coe (a b : ℝ) : wt a b = ((1 / (1 + Real.exp (b - a)) : ℝ) : EReal) := by
  have h : (1 : ℝ) + Real.exp (b - a) ≠ 0 := by have := Real.exp_pos (b - a); positivity
  unfold wt
  rw [← EReal.coe_sub, show Ideal.exp ((b - a : ℝ) : EReal) = (Real.exp (b - a) : EReal) from rfl, ← EReal.coe_one,
    ← EReal.coe_add, Ideal.div_coe h, ← EReal.coe_mul, one_mul]

/-- The two gates found second by second are the two best, however found. -/
theorem Top2.pick {g : Fin 64 → EReal} {b c i j : Fin 64} (h : Top2 g b c) (hi : ∀ k, g k ≤ g i) (hne : j ≠ i)
    (hj : ∀ k, k ≠ i → g k ≤ g j) : Top2 g i j := by
  have hib : i = b ∨ i = c := by
    by_contra hn; push Not at hn
    exact absurd (hi c) (not_le.mpr (h.lt i hn.1 hn.2))
  have hjb : j = b ∨ j = c := by
    by_contra hn; push Not at hn
    have hlt := h.lt j hn.1 hn.2
    by_cases hc : c = i
    · exact absurd (hj b (fun e => h.ne (e.trans hc.symm))) (not_le.mpr (lt_of_lt_of_le hlt h.le))
    · exact absurd (hj c hc) (not_le.mpr hlt)
  refine ⟨hne.symm, hi j, fun k hki hkj => ?_, lt_of_le_of_lt ?_ h.top⟩
  · have hkb : k ≠ b := by rcases hib with rfl | rfl <;> rcases hjb with rfl | rfl <;> simp_all
    have hkc : k ≠ c := by rcases hib with rfl | rfl <;> rcases hjb with rfl | rfl <;> simp_all
    have := h.lt k hkb hkc
    rcases hjb with rfl | rfl
    · exact lt_of_lt_of_le this h.le
    · exact this
  · rcases hib with rfl | rfl
    · exact le_rfl
    · exact h.le

/-- The second best of the rest is not masked. -/
theorem Top2.unmasked {g : Fin 64 → EReal} {b c i j : Fin 64} (h : Top2 g b c)
    (hj : ∀ k, (if k = i then ⊥ else g k) ≤ (if j = i then ⊥ else g j)) : j ≠ i := by
  rintro rfl
  rw [if_pos rfl] at hj
  by_cases hc : c = j
  · have := hj b
    rw [if_neg (fun e => h.ne (e.trans hc.symm))] at this
    exact absurd this (not_le.mpr (lt_of_lt_of_le h.bot h.le))
  · have := hj c
    rw [if_neg hc] at this
    exact absurd this (not_le.mpr h.bot)

/-- The weights do not depend on which of the pair is called the first. -/
theorem cf_unique {g : Fin 64 → EReal} {i j b c : Fin 64} (h : Top2 g i j) (h' : Top2 g b c) (e : Fin 64) :
    cf g i j e = cf g b c e := by
  have hi : ∀ k, g k ≤ g i := fun k => by
    by_cases h1 : k = i
    · rw [h1]
    by_cases h2 : k = j
    · rw [h2]; exact h.le
    exact ((h.lt k h1 h2).le).trans h.le
  have hb : ∀ k, g k ≤ g b := fun k => by
    by_cases h1 : k = b
    · rw [h1]
    by_cases h2 : k = c
    · rw [h2]; exact h'.le
    exact ((h'.lt k h1 h2).le).trans h'.le
  have hib : i = b ∨ i = c := by
    by_contra hn; push Not at hn
    exact absurd (hi c) (not_le.mpr (h'.lt i hn.1 hn.2))
  have hbi : b = i ∨ b = j := by
    by_contra hn; push Not at hn
    exact absurd (hb j) (not_le.mpr (h.lt b hn.1 hn.2))
  have hjb : j = b ∨ j = c := by
    by_contra hn; push Not at hn
    have hlt := h'.lt j hn.1 hn.2
    rcases hbi with rfl | rfl
    · exact absurd (h.lt c (fun e => h'.ne e.symm) (fun e => hn.2 e.symm)) (not_lt.mpr hlt.le)
    · exact hn.1 rfl
  rcases hib with rfl | rfl
  · rcases hjb with rfl | rfl
    · exact absurd rfl h.ne
    · rfl
  · rcases hjb with rfl | rfl
    · obtain ⟨x, y, hx, hy, hxy⟩ := h.real
      obtain ⟨x', y', hx', hy', hxy'⟩ := h'.real
      have e1 : x' = y := by rw [hx'] at hy; exact_mod_cast hy
      have e2 : y' = x := by rw [hy'] at hx; exact_mod_cast hx
      have e3 : x = y := le_antisymm (by rw [← e1, ← e2]; exact hxy') hxy
      unfold cf
      rw [hx, hy, e3, wt_coe, sub_self, Real.exp_zero, add_comm]
      have : (1 : EReal) - ((1 / (1 + 1) : ℝ) : EReal) = ((1 / (1 + 1) : ℝ) : EReal) := by
        rw [← EReal.coe_one, ← EReal.coe_sub]; norm_num
      rw [this]
    · exact absurd rfl h.ne

/-- Gates in another order have the same two best, at their places in that order. -/
theorem Top2.map {g : Fin 64 → EReal} {i j : Fin 64} (h : Top2 g i j) (ρ : Fin 64 ≃ Fin 64) :
    Top2 (fun k => g (ρ k)) (ρ.symm i) (ρ.symm j) where
  ne := fun e => h.ne (ρ.symm.injective e)
  le := by simpa using h.le
  lt k h1 h2 := by
    have := h.lt (ρ k) (fun e => h1 (by rw [← e, Equiv.symm_apply_apply])) (fun e => h2 (by rw [← e, Equiv.symm_apply_apply]))
    simpa using this
  top := by simpa using h.top

theorem cf_map {g : Fin 64 → EReal} {i j : Fin 64} (ρ : Fin 64 ≃ Fin 64) (e : Fin 64) :
    cf (fun k => g (ρ k)) (ρ.symm i) (ρ.symm j) e = cf g i j (ρ e) := by
  unfold cf
  simp only [Equiv.apply_symm_apply, Equiv.symm_apply_eq]

/-! ## The softmax of the pair as the reference writes it -/

/-- The softmax over a pair of real numbers, the greater first. -/
theorem soft_fst (a b : ℝ) (h : b ≤ a) (M : EReal) (hM : M = max (a : EReal) b) :
    Ideal.div (Ideal.exp (a - M)) (Ideal.exp (a - M) + Ideal.exp (b - M)) = wt a b := by
  rw [hM, max_eq_left (EReal.coe_le_coe_iff.mpr h), wt_coe, ← EReal.coe_sub, ← EReal.coe_sub, sub_self]
  rw [show Ideal.exp ((0 : ℝ) : EReal) = (Real.exp 0 : EReal) from rfl,
    show Ideal.exp ((b - a : ℝ) : EReal) = (Real.exp (b - a) : EReal) from rfl, Real.exp_zero, ← EReal.coe_add,
    Ideal.div_coe (by have := Real.exp_pos (b - a); positivity), ← EReal.coe_mul, one_mul]

theorem soft_snd (a b : ℝ) (h : b ≤ a) (M : EReal) (hM : M = max (a : EReal) b) :
    Ideal.div (Ideal.exp (b - M)) (Ideal.exp (a - M) + Ideal.exp (b - M)) = 1 - wt a b := by
  have hp := Real.exp_pos (b - a)
  rw [hM, max_eq_left (EReal.coe_le_coe_iff.mpr h), wt_coe, ← EReal.coe_sub, ← EReal.coe_sub, sub_self]
  rw [show Ideal.exp ((0 : ℝ) : EReal) = (Real.exp 0 : EReal) from rfl,
    show Ideal.exp ((b - a : ℝ) : EReal) = (Real.exp (b - a) : EReal) from rfl, Real.exp_zero, ← EReal.coe_add,
    Ideal.div_coe (by positivity), ← EReal.coe_mul, ← EReal.coe_one, ← EReal.coe_sub]
  congr 1
  field_simp
  ring

/-! ## The best gates as the host's top-k finds them -/

/-- The place of the `k`-th best gate. -/
def best (g : Fin 64 → EReal) (k : Fin 64) : Fin 64 := sortedFrom (fun a b => BitVec.ofBool (decide (g b < g a)) == 1#1) k

theorem best_injective (g : Fin 64 → EReal) : Function.Injective (best g) := sortedFrom_injective _

theorem best_le (g : Fin 64 → EReal) {i j : Fin 64} (h : i < j) : g (best g j) ≤ g (best g i) := by
  have hb : ∀ a b : Fin 64, (BitVec.ofBool (decide (g b < g a)) == 1#1) = decide (g b < g a) := fun a b => by
    cases decide (g b < g a) <;> rfl
  have := sortedFrom_noInversion (fun a b => decide (g b < g a)) (fun a b => BitVec.ofBool (decide (g b < g a)) == 1#1)
    (fun a b hR => by rw [hb] at hR; simp only [decide_eq_true_eq, decide_eq_false_iff_not, not_lt] at hR ⊢; exact hR.le)
    (fun a b hB => by rw [hb]; exact hB)
    (fun a b c h1 h2 => by
      simp only [decide_eq_false_iff_not, not_lt] at h1 h2 ⊢; exact h1.trans h2) i j h
  simpa [best] using this

/-- Where the second best is above the third and the best is finite, the first two are the two best. -/
theorem top2_best (g : Fin 64 → EReal) (h : g (best g 2) < g (best g 1)) (ht : g (best g 0) < ⊤) :
    Top2 g (best g 0) (best g 1) where
  ne := fun e => absurd (best_injective g e) (by decide)
  le := best_le g (by decide)
  lt k h0 h1 := by
    obtain ⟨n, rfl⟩ := sortedFrom_surjective (fun a b => BitVec.ofBool (decide (g b < g a)) == 1#1) k
    change g (best g n) < _
    have hn : (2 : Fin 64) ≤ n := by
      have hn0 : n ≠ 0 := fun e => h0 (by rw [e]; rfl)
      have hn1 : n ≠ 1 := fun e => h1 (by rw [e]; rfl)
      have : n.val ≠ 0 := fun e => hn0 (Fin.ext e)
      have : n.val ≠ 1 := fun e => hn1 (Fin.ext e)
      show 2 ≤ n.val
      omega
    rcases eq_or_lt_of_le hn with e | hlt
    · rw [← e]; exact h
    · exact lt_of_le_of_lt (best_le g hlt) h
  top := ht

/-! ## The best gates as the kernel finds them -/

theorem minsi_cases (a b : BitVec 32) : (IntOp.minsi a b = a ∨ IntOp.minsi a b = b) ∧ (IntOp.minsi a b).toInt ≤ a.toInt
    ∧ (IntOp.minsi a b).toInt ≤ b.toInt := by
  unfold IntOp.minsi
  split
  · rename_i h; simp [BitVec.slt] at h; exact ⟨.inl rfl, le_rfl, by omega⟩
  · rename_i h; simp [BitVec.slt] at h; exact ⟨.inr rfl, by omega, le_rfl⟩

/-- The least of a family of words is one of them, and none is less. -/
theorem fold_minsi (init : BitVec 32) (f : Fin 64 → BitVec 32) (s : Finset (Fin 64)) :
    (s.fold IntOp.minsi init f = init ∨ ∃ k ∈ s, s.fold IntOp.minsi init f = f k)
      ∧ ∀ k ∈ s, (s.fold IntOp.minsi init f).toInt ≤ (f k).toInt := by
  classical
  induction s using Finset.induction_on with
  | empty => exact ⟨.inl rfl, fun k hk => absurd hk (Finset.notMem_empty k)⟩
  | insert a s ha ih =>
    rw [Finset.fold_insert ha]
    obtain ⟨hc, h1, h2⟩ := minsi_cases (f a) (s.fold IntOp.minsi init f)
    refine ⟨?_, fun k hk => ?_⟩
    · rcases hc with h | h
      · exact .inr ⟨a, Finset.mem_insert_self a s, h⟩
      · rw [h]
        rcases ih.1 with h' | ⟨k, hk, h'⟩
        · exact .inl h'
        · exact .inr ⟨k, Finset.mem_insert_of_mem hk, h'⟩
    · rcases Finset.mem_insert.mp hk with rfl | hk
      · exact h1
      · exact h2.trans (ih.2 k hk)

/-- The least place at which a condition holds, as a word: it is the word of such a place. -/
theorem fold_first (p : Fin 64 → Prop) [DecidablePred p] (h : ∃ k, p k) :
    ∃ k : Fin 64, p k ∧ Finset.univ.fold IntOp.minsi 2147483647#32 (fun k : Fin 64 => if p k then BitVec.ofNat 32 k.val else 64#32)
      = BitVec.ofNat 32 k.val := by
  obtain ⟨k₀, h₀⟩ := h
  obtain ⟨hc, hle⟩ := fold_minsi 2147483647#32 (fun k : Fin 64 => if p k then BitVec.ofNat 32 k.val else 64#32) Finset.univ
  have hval : ∀ k : Fin 64, (BitVec.ofNat 32 k.val).toInt = k.val := by decide
  have hk := hle k₀ (Finset.mem_univ _)
  rw [if_pos h₀, hval] at hk
  have hlt := k₀.isLt
  rcases hc with h | ⟨k, -, h⟩
  · rw [h] at hk; have : (2147483647#32 : BitVec 32).toInt = 2147483647 := by decide
    omega
  · by_cases hp : p k
    · exact ⟨k, hp, by rw [h, if_pos hp]⟩
    · rw [h, if_neg hp] at hk; have : (64#32 : BitVec 32).toInt = 64 := by decide
      omega

/-- The greatest gate is attained. -/
theorem fold_max (g : Fin 64 → EReal) : (∃ k, Finset.univ.fold max ⊥ g ≤ g k) ∧ ∀ k, g k ≤ Finset.univ.fold max ⊥ g := by
  refine ⟨?_, fun k => (Finset.le_fold_max _).mpr (.inr ⟨k, Finset.mem_univ k, le_rfl⟩)⟩
  rcases (Finset.le_fold_max (s := Finset.univ) (b := ⊥) (f := g) _).mp le_rfl with h | ⟨k, -, h⟩
  · exact ⟨0, h.trans bot_le⟩
  · exact ⟨k, h⟩

/-- A place where the greatest gate is reached holds it. -/
theorem fold_max_eq (g : Fin 64 → EReal) (i : Fin 64) (h : Finset.univ.fold max ⊥ g ≤ g i) :
    Finset.univ.fold max ⊥ g = g i ∧ ∀ k, g k ≤ g i :=
  ⟨le_antisymm h ((fold_max g).2 i), fun k => ((fold_max g).2 k).trans h⟩

theorem word_eq_iff (a b : Fin 64) : BitVec.ofNat 32 a.val = BitVec.ofNat 32 b.val ↔ a = b := by
  revert a b; decide

end Cert.Two

end
-- ==== Proof.Part.lean ====
/-
  One batch of the kernel, read at one token and one column: what the device's two experts make of the token, each
  weighed as the token's two best gates weigh the experts the batch lists last.
-/
module

public import proofs.«01_k».proof.Proof.Two
public import proofs.«01_k».proof.Proof.Model
public import Idealize.ShloMosaic.Lib.Pointwise

@[expose] public section

noncomputable section

namespace Cert.KernelIdeal.Val

open Cert.KernelIdeal Cert.KernelIdeal.Gen Cert.KernelIdeal.Run Cert.Two
open Idealize.ShloMosaic

/-- A choice by equal words. -/
theorem select_eq (a b : BitVec 32) (x y : EReal) : Scalar.select (IntOp.cmpi .eq a b) x y = if a = b then x else y := by
  show (if (BitVec.ofBool (a == b)) = 1#1 then x else y) = _
  by_cases h : a = b
  · rw [if_pos h, if_pos (by rw [h]; simp)]
  · rw [if_neg h, if_neg (by rw [beq_eq_false_iff_ne.mpr h]; decide)]

theorem ofBits_bot : Ideal.ofBits .f32 0xFF800000#32 = ⊥ := by simp [Ideal.ofBits, Ideal.ieee]
theorem mask_bot : (Named.named κ "mask" 0xF149F2CA#32 : Ideal .f32) = ⊥ := rfl

/-- The columns' numbers. -/
def lanes : IVec S128x64 32 := iota .tc S128x64 32 [1] iota_S128x64_d1_w32

section Row

variable (r : FVec Ideal S64x512 .f32) (x : Vec Ideal S8x16x512 .f32) (q : Fin 128)

/-- A batch token's gates. -/
def kg (e : Fin 64) : EReal := k0_pay5 (F := Ideal) r x (ix2 q e)

theorem kg_apply (e : Fin 64) : kg r x q e
    = ∑ k : Fin 512, x (ix3 (⟨q.val / 16, by omega⟩ : Fin 8) (⟨q.val % 16, by omega⟩ : Fin 16) k) * r (ix2 e k) := by
  unfold kg
  pointwise [k0_pay5, k0_pay4]

theorem pay6_apply : k0_pay6 (F := Ideal) r x (ix2 q 0) = Finset.univ.fold max ⊥ (kg r x q) := by
  rw [← ofBits_bot]
  unfold kg
  pointwise [k0_pay6]

theorem pay7_apply : k0_pay7 (F := Ideal) r x (ix2 q 0) = Finset.univ.fold IntOp.minsi 2147483647#32
    (fun e : Fin 64 => if k0_pay6 (F := Ideal) r x (ix2 q 0) ≤ kg r x q e then BitVec.ofNat 32 e.val else 64#32) := by
  unfold kg
  pointwise [k0_pay7]

theorem pay8_apply (e : Fin 64) : k0_pay8 (F := Ideal) r x (ix2 q e)
    = if BitVec.ofNat 32 e.val = k0_pay7 (F := Ideal) r x (ix2 q 0) then ⊥ else kg r x q e := by
  rw [← select_eq, ← mask_bot]
  unfold kg
  pointwise [k0_pay8]

theorem pay9_apply : k0_pay9 (F := Ideal) r x (ix2 q 0)
    = Finset.univ.fold max ⊥ (fun e => k0_pay8 (F := Ideal) r x (ix2 q e)) := by
  rw [← ofBits_bot]
  pointwise [k0_pay9]

end Row

theorem pay10_apply (g : FVec Ideal S128x64 .f32) (M : FVec Ideal S128x1 .f32) (q : Fin 128) :
    k0_pay10 (F := Ideal) lanes g M (ix2 q 0) = Finset.univ.fold IntOp.minsi 2147483647#32
      (fun e : Fin 64 => if M (ix2 q 0) ≤ g (ix2 q e) then BitVec.ofNat 32 e.val else 64#32) := by
  pointwise [k0_pay10, lanes]

theorem pay11_apply (m1 m2 : FVec Ideal S128x1 .f32) (q : Fin 128) :
    k0_pay11 (F := Ideal) m1 m2 (ix2 q 0) = wt (m1 (ix2 q 0)) (m2 (ix2 q 0)) := by
  unfold wt
  pointwise [k0_pay11]

theorem pay12_apply (m1 m2 : FVec Ideal S128x1 .f32) (q : Fin 128) :
    k0_pay12 (F := Ideal) m1 m2 (ix2 q 0) = 1 - wt (m1 (ix2 q 0)) (m2 (ix2 q 0)) := by
  rw [← pay11_apply]
  pointwise [k0_pay12]

theorem pay13_apply (it : IVec S128x64 32) (m1 m2 : FVec Ideal S128x1 .f32) (a : IVec S128x1 32) (g : FVec Ideal S128x64 .f32) (q : Fin 128) :
    k0_pay13 (F := Ideal) it m1 a g m2 (ix2 q 0) = (if a (ix2 q 0) = 62#32 then wt (m1 (ix2 q 0)) (m2 (ix2 q 0)) else 0)
      + (if k0_pay10 (F := Ideal) it g m2 (ix2 q 0) = 62#32 then 1 - wt (m1 (ix2 q 0)) (m2 (ix2 q 0)) else 0) := by
  rw [← select_eq, ← select_eq, ← pay12_apply, ← pay11_apply]
  pointwise [k0_pay13]

theorem pay14_apply (it : IVec S128x64 32) (m1 m2 : FVec Ideal S128x1 .f32) (a : IVec S128x1 32) (g : FVec Ideal S128x64 .f32) (q : Fin 128) :
    k0_pay14 (F := Ideal) it m1 a g m2 (ix2 q 0) = (if a (ix2 q 0) = 63#32 then wt (m1 (ix2 q 0)) (m2 (ix2 q 0)) else 0)
      + (if k0_pay10 (F := Ideal) it g m2 (ix2 q 0) = 63#32 then 1 - wt (m1 (ix2 q 0)) (m2 (ix2 q 0)) else 0) := by
  rw [← select_eq, ← select_eq, ← pay12_apply, ← pay11_apply]
  pointwise [k0_pay14]

/-! ## The two weights -/

section Weights

variable {r : FVec Ideal S64x512 .f32} {x : Vec Ideal S8x16x512 .f32} {q : Fin 128}

/-- The kernel's two choices, at a token whose two best gates stand apart. -/
theorem choices {b c : Fin 64} (h : Top2 (kg r x q) b c) : ∃ i j, Top2 (kg r x q) i j
    ∧ k0_pay6 (F := Ideal) r x (ix2 q 0) = kg r x q i ∧ k0_pay7 (F := Ideal) r x (ix2 q 0) = BitVec.ofNat 32 i.val
    ∧ k0_pay9 (F := Ideal) r x (ix2 q 0) = kg r x q j
    ∧ k0_pay10 (F := Ideal) lanes (k0_pay8 (F := Ideal) r x) (k0_pay9 (F := Ideal) r x) (ix2 q 0) = BitVec.ofNat 32 j.val := by
  obtain ⟨i, hi, hi'⟩ := fold_first (fun e => k0_pay6 (F := Ideal) r x (ix2 q 0) ≤ kg r x q e) (by
    rw [pay6_apply]; exact (fold_max _).1)
  rw [← pay7_apply] at hi'
  rw [pay6_apply] at hi
  obtain ⟨h6, hmax⟩ := fold_max_eq _ i hi
  have h8 : (fun e => k0_pay8 (F := Ideal) r x (ix2 q e)) = fun e => if e = i then ⊥ else kg r x q e := funext fun e => by
    rw [pay8_apply, hi']; simp only [word_eq_iff]
  obtain ⟨j, hj, hj'⟩ := fold_first (fun e => k0_pay9 (F := Ideal) r x (ix2 q 0) ≤ k0_pay8 (F := Ideal) r x (ix2 q e)) (by
    rw [pay9_apply]; exact (fold_max _).1)
  rw [← pay10_apply] at hj'
  rw [pay9_apply] at hj
  obtain ⟨h9, hmax'⟩ := fold_max_eq _ j hj
  have h8' := fun e => congrFun h8 e
  simp only [h8'] at hmax' h9
  have hne := h.unmasked hmax'
  rw [if_neg hne] at h9
  refine ⟨i, j, h.pick hmax hne fun k hk => ?_, (pay6_apply r x q).trans h6, hi', ?_, hj'⟩
  · have := hmax' k
    rwa [if_neg hk, if_neg hne] at this
  · rw [pay9_apply]; simp only [h8']; exact h9

/-- The weights of the two experts listed last. -/
theorem weights {b c : Fin 64} (h : Top2 (kg r x q) b c) :
    k0_pay13 (F := Ideal) lanes (k0_pay6 r x) (k0_pay7 r x) (k0_pay8 r x) (k0_pay9 r x) (ix2 q 0) = cf (kg r x q) b c 62
    ∧ k0_pay14 (F := Ideal) lanes (k0_pay6 r x) (k0_pay7 r x) (k0_pay8 r x) (k0_pay9 r x) (ix2 q 0) = cf (kg r x q) b c 63 := by
  obtain ⟨i, j, hij, h6, h7, h9, h10⟩ := choices h
  rw [pay13_apply, pay14_apply, h6, h7, h9, h10, ← cf_unique hij h, ← cf_unique hij h]
  have e : ∀ a : Fin 64, (BitVec.ofNat 32 a.val = 62#32 ↔ a = 62) ∧ (BitVec.ofNat 32 a.val = 63#32 ↔ a = 63) := by decide
  unfold cf
  simp only [(e _).1, (e _).2, and_self]

end Weights

/-! ## The batch -/

/-- What an expert's two matrices make of a batch token. -/
def bmade (x : Vec Ideal S8x16x512 .f32) (u : Vec Ideal S1x512x1024 .bf16) (d : Vec Ideal S1x1024x512 .bf16) (s : Fin 8) (t : Fin 16)
    (k : Fin 512) : EReal :=
  ∑ f : Fin 1024, max (∑ p : Fin 512, x (ix3 s t p) * u (ix3 0 p f)) 0 * d (ix3 0 f k)

theorem pay18_apply (a b : FVec Ideal S128x1 .f32) (x : Vec Ideal S8x16x512 .f32) (u0 : Vec Ideal S1x512x1024 .bf16) (d0 : Vec Ideal S1x1024x512 .bf16)
    (u1 : Vec Ideal S1x512x1024 .bf16) (d1 : Vec Ideal S1x1024x512 .bf16) (s : Fin 8) (t : Fin 16) (k : Fin 512) :
    k0_pay18 (F := Ideal) a b (k0_pay15 (k0_pay4 x)) k0_pay16 (k0_pay17 (k0_pay4 x) u0) d0 u1 d1 (ix3 s t k)
      = bmade x u0 d0 s t k * a (ix2 (⟨s.val * 16 + t.val, by omega⟩ : Fin 128) 0)
        + bmade x u1 d1 s t k * b (ix2 (⟨s.val * 16 + t.val, by omega⟩ : Fin 128) 0) := by
  unfold bmade
  pointwise [k0_pay18, k0_pay15, k0_pay4, k0_pay16, k0_pay17]

/-- A batch at a token whose two best gates stand apart. -/
theorem ffn_apply {r : FVec Ideal S64x512 .f32} {x : Vec Ideal S8x16x512 .f32} (u0 : Vec Ideal S1x512x1024 .bf16) (d0 : Vec Ideal S1x1024x512 .bf16)
    (u1 : Vec Ideal S1x512x1024 .bf16) (d1 : Vec Ideal S1x1024x512 .bf16) {s : Fin 8} {t : Fin 16} {g : Fin 64 → EReal} {b c : Fin 64}
    (hg : ∀ e, ∑ k : Fin 512, x (ix3 s t k) * r (ix2 e k) = g e) (h : Top2 g b c) (k : Fin 512) :
    ffn (F := Ideal) r x u0 d0 u1 d1 (ix3 s t k) = bmade x u0 d0 s t k * cf g b c 62 + bmade x u1 d1 s t k * cf g b c 63 := by
  have e : kg r x ⟨s.val * 16 + t.val, by omega⟩ = g := funext fun e => by
    rw [kg_apply, ← hg e]
    refine Finset.sum_congr rfl fun k _ => ?_
    have hs : (⟨(s.val * 16 + t.val) / 16, by omega⟩ : Fin 8) = s := Fin.ext (by show (s.val * 16 + t.val) / 16 = s.val; omega)
    have ht : (⟨(s.val * 16 + t.val) % 16, by omega⟩ : Fin 16) = t := Fin.ext (by show (s.val * 16 + t.val) % 16 = t.val; omega)
    exact congrArg₂ (fun a b => x (ix3 a b k) * r (ix2 e k)) hs ht
  rw [← e] at h
  obtain ⟨h0, h1⟩ := weights h
  rw [← e, ← h0, ← h1]
  exact pay18_apply _ _ x u0 d0 u1 d1 s t k

end Cert.KernelIdeal.Val

end
-- ==== Proof.Ref.lean ====
/-
  The reference, read at one token and one column: the sum over the experts of what each makes of the token, weighed by
  the softmax of the token's two best gates.
-/
module

public import proofs.«01_k».proof.Proof.Two
public import proofs.«01_k».proof.Proof.Gen.ReferenceIdeal.Run
public import proofs.«01_k».proof.Proof.Gen.On_decided

@[expose] public section

noncomputable section

namespace Cert.ReferenceIdeal.Val

open Cert.ReferenceIdeal Cert.ReferenceIdeal.Gen Cert.Two
open Idealize.ShloMosaic Idealize.ShloMosaic.TcCoe Idealize.SL.Sem

/-! ## The reference in stages -/

/-- The gates. -/
def gates (a0 : FVec Ideal S512x512 .f32) (a1 : FVec Ideal S512x64 .f32) : FVec Ideal S512x64 .f32 :=
  Host.dotGeneral dot_S512x512_S512x64_S512x64_1_0_0_1_n_n none a0 a1

/-- The two best gates, and their experts. -/
def tops (g : FVec Ideal S512x64 .f32) : FVec Ideal S512x2 .f32 × IVec S512x2 32 :=
  Host.topK S512x2 1 (FloatOps.cmpfTotal .gt) g sliceFits_S512x64_S512x2

/-- The softmax of the pair: its numerators, then the weights. -/
def num (v : FVec Ideal S512x2 .f32) : FVec Ideal S512x2 .f32 :=
  Host.exp (subf v (broadcastInDim S512x2 ![0, 1] bcast_S512x1_S512x2_0_1 (broadcastInDim S512x1 ![0] bcast_S512_S512x1_0
    (Host.reduce FloatOps.maximumf v (constant S_ .f32 0xFF800000#32) reducesTo_S512x2_S512_d1 h_S_))))
def soft (n : FVec Ideal S512x2 .f32) : FVec Ideal S512x2 .f32 :=
  Host.divf n (broadcastInDim S512x2 ![0, 1] bcast_S512x1_S512x2_0_1 (broadcastInDim S512x1 ![0] bcast_S512_S512x1_0
    (Host.reduceAdd n (constant S_ .f32 0x00000000#32) reducesTo_S512x2_S512_d1 h_S_)))

/-- What each expert weighs for each token. -/
def weigh (i : IVec S512x2 32) (w : FVec Ideal S512x2 .f32) : FVec Ideal S512x64 .f32 :=
  Host.reduceAdd (select (cmpi .eq (broadcastInDim S512x2x64 ![0, 1, 2] bcast_S512x2x1_S512x2x64_0_1_2
      (broadcastInDim S512x2x1 ![0, 1] bcast_S512x2_S512x2x1_0_1 i))
    (broadcastInDim S512x2x64 ![0, 1, 2] bcast_S1x1x64_S512x2x64_0_1_2 (broadcastInDim S1x1x64 ![2] bcast_S64_S1x1x64_2 (iotaInDim S64 32 0))))
    (broadcastInDim S512x2x64 ![0, 1, 2] bcast_S512x2x1_S512x2x64_0_1_2 (broadcastInDim S512x2x1 ![0, 1] bcast_S512x2_S512x2x1_0_1 w))
    (broadcastInDim S512x2x64 ![] bcast_S_S512x2x64 (id (constant S_ .f32 0x00000000#32))))
    (constant S_ .f32 0x00000000#32) reducesTo_S512x2x64_S512x64_d1 h_S_

/-- What each expert makes of each token. -/
def experts (a0 : FVec Ideal S512x512 .f32) (a2 : FVec Ideal S64x512x1024 .f32) (a3 : FVec Ideal S64x1024x512 .f32) :
    FVec Ideal S64x512x512 .f32 :=
  Host.dotGeneral dot_S512x64x1024_S64x1024x512_S64x512x512_2_1_0_2_1_0 none
    (maximumf (Host.dotGeneral dot_S512x512_S64x512x1024_S512x64x1024_1_1_0_02_n_n none a0 a2)
      (broadcastInDim S512x64x1024 ![] bcast_S_S512x64x1024 (constant S_ .f32 0x00000000#32))) a3

/-- The weighed sum. -/
def mix (y : FVec Ideal S64x512x512 .f32) (c : FVec Ideal S512x64 .f32) : FVec Ideal S512x512 .f32 :=
  Host.reduceAdd (mulf y (broadcastInDim S64x512x512 ![0, 1, 2] bcast_S64x512x1_S64x512x512_0_1_2
    (broadcastInDim S64x512x1 ![0, 1] bcast_S64x512_S64x512x1_0_1 (transpose S64x512 [1, 0] c transposes_S512x64_S64x512_1_0))))
    (constant S_ .f32 0x00000000#32) reducesTo_S64x512x512_S512x512_d0 h_S_

/-- The reference's result. -/
def result (a0 : FVec Ideal S512x512 .f32) (a1 : FVec Ideal S512x64 .f32) (a2 : FVec Ideal S64x512x1024 .f32)
    (a3 : FVec Ideal S64x1024x512 .f32) : FVec Ideal S512x512 .f32 :=
  mix (experts a0 a2 a3) (weigh (tops (gates a0 a1)).2 (soft (num (tops (gates a0 a1)).1)))

/-- The reference runs to that result. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans rfl, (h c).2⟩) (Cert.ReferenceIdeal.Value.run (F := Ideal) m ρ)

/-! ## Its stages at an index -/

theorem gates_apply (a0 : FVec Ideal S512x512 .f32) (a1 : FVec Ideal S512x64 .f32) (t : Fin 512) (e : Fin 64) :
    gates a0 a1 (ix2 t e) = ∑ k : Fin 512, a0 (ix2 t k) * a1 (ix2 k e) := by
  pointwise [gates]

theorem num_apply (v : FVec Ideal S512x2 .f32) (t : Fin 512) (s : Fin 2) :
    num v (ix2 t s) = Ideal.exp (v (ix2 t s) - max (v (ix2 t 0)) (v (ix2 t 1))) := by
  pointwise [num]
  rw [show Ideal.ofBits .f32 0xFF800000#32 = ⊥ from by simp [Ideal.ofBits, Ideal.ieee]]
  rw [show (Finset.univ : Finset (Fin 2)) = {0, 1} from rfl, Finset.fold_insert (by decide), Finset.fold_singleton]
  simp

theorem soft_apply (n : FVec Ideal S512x2 .f32) (t : Fin 512) (s : Fin 2) :
    soft n (ix2 t s) = Ideal.div (n (ix2 t s)) (n (ix2 t 0) + n (ix2 t 1)) := by
  pointwise [soft]
  rw [Fin.sum_univ_two]

theorem weigh_apply (i : IVec S512x2 32) (w : FVec Ideal S512x2 .f32) (t : Fin 512) (e : Fin 64) :
    weigh i w (ix2 t e) = (if i (ix2 t 0) = BitVec.ofNat 32 e.val then w (ix2 t 0) else 0)
      + (if i (ix2 t 1) = BitVec.ofNat 32 e.val then w (ix2 t 1) else 0) := by
  pointwise [weigh]
  rw [Fin.sum_univ_two]
  have hs : ∀ (a b : BitVec 32) (x : EReal), Scalar.select (IntOp.cmpi .eq a b) x (id (constant (F := Ideal) S_ .f32 0x00000000#32) ix0)
      = if a = b then x else 0 := fun a b x => by
    show (if (BitVec.ofBool (a == b)) = 1#1 then x else Ideal.ofBits .f32 0x00000000#32) = _
    rw [Ideal.ofBits_zero_f32]
    by_cases hab : a = b
    · rw [if_pos hab, if_pos (by rw [hab]; simp)]
    · rw [if_neg hab, if_neg (by rw [beq_eq_false_iff_ne.mpr hab]; decide)]
  rw [hs, hs]

theorem experts_apply (a0 : FVec Ideal S512x512 .f32) (a2 : FVec Ideal S64x512x1024 .f32) (a3 : FVec Ideal S64x1024x512 .f32)
    (e : Fin 64) (t d : Fin 512) :
    experts a0 a2 a3 (ix3 e t d)
      = ∑ f : Fin 1024, max (∑ k : Fin 512, a0 (ix2 t k) * a2 (ix3 e k f)) 0 * a3 (ix3 e f d) := by
  pointwise [experts]

theorem mix_apply (y : FVec Ideal S64x512x512 .f32) (c : FVec Ideal S512x64 .f32) (t d : Fin 512) :
    mix y c (ix2 t d) = ∑ e : Fin 64, y (ix3 e t d) * c (ix2 t e) := by
  pointwise [mix]

theorem along_ix2 (t : Fin 512) (a : Fin 64) (k : Fin 64) : (ix2 t a : S512x64.Idx).along 1 k = ix2 t k := by
  funext b
  fin_cases b <;> rfl

/-- A slice that keeps the leading columns, at an index. -/
theorem slice_apply {n : ℕ} {α : Type} (hn : n ≤ 64) (h : S512x64.Slices (fun _ => 0) ⟨2, ![512, n]⟩) (v : S512x64.Idx → α)
    (t : Fin 512) (s : Fin n) : extractStridedSlice ⟨2, ![512, n]⟩ (fun _ => 0) v h (ix2 t s)
      = v (ix2 t ⟨s.val, s.isLt.trans_le hn⟩) := by
  refine congrArg v (funext fun b => ?_)
  fin_cases b <;> exact Fin.ext (Nat.zero_add _)

/-- The order the host sorts a row by is the order of its entries. -/
theorem sorted_row (g : FVec Ideal S512x64 .f32) (t : Fin 512) (s : Fin 64) : sortedFrom (fun k k' : Fin 64 =>
      FloatOps.cmpfTotal .gt (g ((ix2 t s : S512x64.Idx).along 1 k)) (g ((ix2 t s : S512x64.Idx).along 1 k')) == 1#1) s
    = best (fun e => g (ix2 t e)) s :=
  congrArg (fun f => sortedFrom f s) (funext fun k => funext fun k' =>
    congrArg₂ (fun a b => FloatOps.cmpfTotal .gt (g a) (g b) == 1#1) (along_ix2 t s k) (along_ix2 t s k'))

/-- What the host's top-k puts at place `s`: the value it ranks there. -/
theorem topK_val {n : ℕ} (hn : n ≤ 64) (h : S512x64.Slices (fun _ => 0) ⟨2, ![512, n]⟩) (g : FVec Ideal S512x64 .f32) (t : Fin 512)
    (s : Fin n) : (Host.topK ⟨2, ![512, n]⟩ 1 (FloatOps.cmpfTotal .gt) g h).1 (ix2 t s)
      = g (ix2 t (best (fun e => g (ix2 t e)) ⟨s.val, s.isLt.trans_le hn⟩)) := by
  refine (slice_apply hn h (fun j => g (j.along 1 (sortedFrom
    (fun k k' => FloatOps.cmpfTotal .gt (g (j.along 1 k)) (g (j.along 1 k')) == 1#1) (j 1)))) t s).trans ?_
  exact congrArg g ((along_ix2 t _ _).trans (congrArg (ix2 t) (sorted_row g t _)))

/-- Its place: the number of the expert ranked there. -/
theorem topK_idx {n : ℕ} (hn : n ≤ 64) (h : S512x64.Slices (fun _ => 0) ⟨2, ![512, n]⟩) (g : FVec Ideal S512x64 .f32) (t : Fin 512)
    (s : Fin n) : (Host.topK ⟨2, ![512, n]⟩ 1 (FloatOps.cmpfTotal .gt) g h).2 (ix2 t s)
      = BitVec.ofNat 32 (best (fun e => g (ix2 t e)) ⟨s.val, s.isLt.trans_le hn⟩).val := by
  refine (slice_apply hn h (fun j => iotaInDim S512x64 32 1 (j.along 1 (sortedFrom
    (fun k k' => FloatOps.cmpfTotal .gt (g (j.along 1 k)) (g (j.along 1 k')) == 1#1) (j 1)))) t s).trans ?_
  exact (congrArg (iotaInDim S512x64 32 1) ((along_ix2 t _ _).trans (congrArg (ix2 t) (sorted_row g t _)))).trans rfl

/-! ## The tokens the claim reads -/

/-- A token is read where its second best gate is above its third and its best is not `⊤`. -/
def ok (v : FVec Ideal On_decided.S512x3 .f32) : IVec S512x512 1 :=
  broadcastInDim S512x512 ![0, 1] On_decided.Gen.bcast_S512x1_S512x512_0_1 (broadcastInDim S512x1 ![0] On_decided.Gen.bcast_S512_S512x1_0
    (andi
      (cmpf .ogt (shapeCast S512 (extractStridedSlice S512x1 ![0, 1] v On_decided.Gen.slices_S512x3_S512x1_0_1) On_decided.Gen.shapeCasts_S512x1_S512)
        (shapeCast S512 (extractStridedSlice S512x1 ![0, 2] v On_decided.Gen.slices_S512x3_S512x1_0_2) On_decided.Gen.shapeCasts_S512x1_S512))
      (cmpf .olt (shapeCast S512 (extractStridedSlice S512x1 ![0, 0] v On_decided.Gen.slices_S512x3_S512x1_0_0) On_decided.Gen.shapeCasts_S512x1_S512)
        (broadcastInDim S512 ![] On_decided.Gen.bcast_S_S512 (constant S_ .f32 0x7F800000#32)))))

theorem fn_eq (a0 : FVec Ideal S512x512 .f32) (a1 : FVec Ideal S512x64 .f32) (a2 : FVec Ideal S64x512x1024 .f32)
    (a3 : FVec Ideal S64x1024x512 .f32) : On_decided.fn a0 a1 a2 a3
      = ok (Host.topK On_decided.S512x3 1 (FloatOps.cmpfTotal .gt) (gates a0 a1) On_decided.Gen.sliceFits_S512x64_S512x3).1 := rfl

theorem ok_apply (v : FVec Ideal On_decided.S512x3 .f32) (t k : Fin 512) (h : ok v (ix2 t k) = 1#1) :
    v (ix2 t 2) < v (ix2 t 1) ∧ v (ix2 t 0) < ⊤ := by
  revert h
  pointwise [ok]
  rw [show Ideal.ofBits .f32 0x7F800000#32 = ⊤ from by simp [Ideal.ofBits, Ideal.ieee]]
  generalize v (ix2 t 2) = x2, v (ix2 t 1) = x1, v (ix2 t 0) = x0
  intro h
  by_cases h1 : x2 < x1 <;> by_cases h2 : x0 < ⊤
  · exact ⟨h1, h2⟩
  all_goals simp [h1, h2, IntOp.andi] at h

/-- The gates of a token. -/
def row (a0 : FVec Ideal S512x512 .f32) (a1 : FVec Ideal S512x64 .f32) (t : Fin 512) (e : Fin 64) : EReal :=
  ∑ k : Fin 512, a0 (ix2 t k) * a1 (ix2 k e)

theorem row_eq (a0 : FVec Ideal S512x512 .f32) (a1 : FVec Ideal S512x64 .f32) (t : Fin 512) :
    (fun e => gates a0 a1 (ix2 t e)) = row a0 a1 t := funext fun e => gates_apply a0 a1 t e

/-- At a token the claim reads, the two experts ranked first are its two best. -/
theorem top2_of_fn {a0 : FVec Ideal S512x512 .f32} {a1 : FVec Ideal S512x64 .f32} {a2 : FVec Ideal S64x512x1024 .f32}
    {a3 : FVec Ideal S64x1024x512 .f32} {t k : Fin 512} (h : On_decided.fn a0 a1 a2 a3 (ix2 t k) = 1#1) :
    Top2 (row a0 a1 t) (best (row a0 a1 t) 0) (best (row a0 a1 t) 1) := by
  rw [fn_eq] at h
  obtain ⟨h1, h2⟩ := ok_apply _ t k h
  rw [topK_val (n := 3) (by decide), topK_val (n := 3) (by decide), row_eq, gates_apply, gates_apply] at h1
  rw [topK_val (n := 3) (by decide), row_eq, gates_apply] at h2
  exact top2_best _ h1 h2

/-- What an expert weighs for a token whose two best gates stand apart. -/
theorem weigh_eq {g : FVec Ideal S512x64 .f32} {t : Fin 512} {r : Fin 64 → EReal} (hr : (fun e => g (ix2 t e)) = r)
    (h : Top2 r (best r 0) (best r 1)) (e : Fin 64) :
    weigh (tops g).2 (soft (num (tops g).1)) (ix2 t e) = cf r (best r 0) (best r 1) e := by
  obtain ⟨a, b, ha, hb, hab⟩ := h.real
  have hv0 : (tops g).1 (ix2 t 0) = (a : EReal) := by
    refine (topK_val (n := 2) (by decide) _ g t 0).trans ?_
    rw [hr, ← ha, ← hr]; rfl
  have hv1 : (tops g).1 (ix2 t 1) = (b : EReal) := by
    refine (topK_val (n := 2) (by decide) _ g t 1).trans ?_
    rw [hr, ← hb, ← hr]; rfl
  have hi0 : (tops g).2 (ix2 t 0) = BitVec.ofNat 32 (best r 0).val := by
    refine (topK_idx (n := 2) (by decide) _ g t 0).trans ?_
    rw [hr]; rfl
  have hi1 : (tops g).2 (ix2 t 1) = BitVec.ofNat 32 (best r 1).val := by
    refine (topK_idx (n := 2) (by decide) _ g t 1).trans ?_
    rw [hr]; rfl
  rw [weigh_apply, soft_apply, soft_apply, num_apply, num_apply, hv0, hv1, hi0, hi1, soft_fst a b hab _ rfl,
    soft_snd a b hab _ rfl]
  unfold cf
  rw [ha, hb]
  simp only [word_eq_iff]

/-- What expert `e` makes of token `t` at column `d`. -/
def made (a0 : FVec Ideal S512x512 .f32) (a2 : FVec Ideal S64x512x1024 .f32) (a3 : FVec Ideal S64x1024x512 .f32)
    (e : Fin 64) (t d : Fin 512) : EReal :=
  ∑ f : Fin 1024, max (∑ k : Fin 512, a0 (ix2 t k) * a2 (ix3 e k f)) 0 * a3 (ix3 e f d)

/-- The reference at a token the claim reads. -/
theorem result_apply {a0 : FVec Ideal S512x512 .f32} {a1 : FVec Ideal S512x64 .f32} (a2 : FVec Ideal S64x512x1024 .f32)
    (a3 : FVec Ideal S64x1024x512 .f32) {t : Fin 512} (h : Top2 (row a0 a1 t) (best (row a0 a1 t) 0) (best (row a0 a1 t) 1)) (d : Fin 512) :
    result a0 a1 a2 a3 (ix2 t d)
      = ∑ e : Fin 64, made a0 a2 a3 e t d * cf (row a0 a1 t) (best (row a0 a1 t) 0) (best (row a0 a1 t) 1) e := by
  refine (mix_apply _ _ t d).trans (Finset.sum_congr rfl fun e _ => ?_)
  rw [experts_apply, weigh_eq (row_eq a0 a1 t) h e]
  rfl

end Cert.ReferenceIdeal.Val

end
-- ==== Proof.Equation.lean ====
/-
  The kernel's result is the reference's at every token the claim reads.
-/
module

public import proofs.«01_k».proof.Proof.Part
public import proofs.«01_k».proof.Proof.Ref
public import proofs.«01_k».proof.Proof.Common
public import Idealize.ShloMosaic.Lib.Pipeline.ValueKit.Tiles

@[expose] public section

noncomputable section

namespace Cert.KernelIdeal.Val

open Cert.KernelIdeal Cert.KernelIdeal.Gen Cert.KernelIdeal.Run Cert.Two
open Cert.ReferenceIdeal.Val (row made)
open Idealize.ShloMosaic

/-! ## The buffers, read -/

variable (v : Ins Ideal)

theorem read_x (o : Dev nD) (b : Fin 4) (s : Fin 8) (t : Fin 16) (k : Fin 512) :
    xgM.view.readAt (Elt Ideal) (rect8 b).toLoadRect (XG v o) (ix3 s t k) = v.x (fwd o (31 - (8 * b.val + s.val))) (ix2 t k) := by
  refine (View.ld_unit_apply_of (XG v o) _ _ (inb8 b) (ix3 s t k) (ix3 (⟨8 * b.val + s.val, by omega⟩ : Fin 32) t k) fun a => ?_).trans ?_
  · fin_cases a
    · rfl
    · exact (Nat.zero_add _).symm
    · exact (Nat.zero_add _).symm
  · exact congrArg (v.x _) (ix2_eq_valueIdx t k).symm

theorem read_r (o : Dev nD) (e : Fin 64) (k : Fin 512) :
    k0_pay3 (rgM.view.readAt (Elt Ideal) rectRA.toLoadRect (RG v o)) (ix2 e k)
      = v.r (fwd o (31 - e.val / 2)) (ix2 (⟨e.val % 2, by omega⟩ : Fin 2) k) := by
  pointwise [k0_pay3]
  refine (View.ld_unit_apply_of (RG v o) _ _ _ _ (ix3 (⟨e.val / 2, by omega⟩ : Fin 32) (⟨e.val % 2, by omega⟩ : Fin 2) k) fun a => ?_).trans ?_
  · fin_cases a <;> exact (Nat.zero_add _).symm
  · exact congrArg (v.r _) (ix2_eq_valueIdx _ k).symm

theorem read_u0 (o : Dev nD) (p : Fin 512) (f : Fin 1024) :
    w1M.view.readAt (Elt Ideal) rectU0.toLoadRect (v.u o) (ix3 0 p f) = v.u o (ix3 0 p f) :=
  View.ld_unit_apply_of (v.u o) _ _ _ _ (ix3 0 p f) fun a => by fin_cases a <;> exact (Nat.zero_add _).symm

theorem read_u1 (o : Dev nD) (p : Fin 512) (f : Fin 1024) :
    w1M.view.readAt (Elt Ideal) rectU1.toLoadRect (v.u o) (ix3 0 p f) = v.u o (ix3 1 p f) :=
  View.ld_unit_apply_of (v.u o) _ _ _ _ (ix3 1 p f) fun a => by
    fin_cases a
    · rfl
    all_goals exact (Nat.zero_add _).symm

theorem read_d0 (o : Dev nD) (f : Fin 1024) (k : Fin 512) :
    w2M.view.readAt (Elt Ideal) rectD0.toLoadRect (v.d o) (ix3 0 f k) = v.d o (ix3 0 f k) :=
  View.ld_unit_apply_of (v.d o) _ _ _ _ (ix3 0 f k) fun a => by fin_cases a <;> exact (Nat.zero_add _).symm

theorem read_d1 (o : Dev nD) (f : Fin 1024) (k : Fin 512) :
    w2M.view.readAt (Elt Ideal) rectD1.toLoadRect (v.d o) (ix3 0 f k) = v.d o (ix3 1 f k) :=
  View.ld_unit_apply_of (v.d o) _ _ _ _ (ix3 1 f k) fun a => by
    fin_cases a
    · rfl
    all_goals exact (Nat.zero_add _).symm

theorem out_apply (c : Dev nD) (t : Fin 16) (k : Fin 512) : OUT v c (ix2 t k) = ∑ q : Fin 32, PB v c (ix3 q t k) := by
  pointwise [OUT, k0_pay66]
  refine Finset.sum_congr rfl fun q _ => View.ld_unit_apply_of (PB v c) _ _ _ _ (ix3 q t k) fun a => ?_
  fin_cases a <;> exact (Nat.zero_add _).symm

/-! ## The experts, as a device lists them -/

/-- Device `o` lists the experts by the devices it hears from: its own two come last. -/
def listed (o : Dev nD) (e : Fin 64) : Fin 64 :=
  ⟨2 * ((o.val + (31 - e.val / 2)) % 32) + e.val % 2, by omega⟩

theorem listed_listed (o : Dev nD) : Function.Involutive (listed o) := fun e => Fin.ext (by
  have h : o.val < 32 := o.isLt
  have he := e.isLt
  show 2 * ((o.val + (31 - (2 * ((o.val + (31 - e.val / 2)) % 32) + e.val % 2) / 2)) % 32)
    + (2 * ((o.val + (31 - e.val / 2)) % 32) + e.val % 2) % 2 = e.val
  omega)

def list (o : Dev nD) : Fin 64 ≃ Fin 64 := (listed_listed o).toPerm

/-- The two experts of a device. -/
def mine (o : Dev nD) (l : Fin 2) : Fin 64 := ⟨2 * o.val + l.val, by have h : o.val < 32 := o.isLt; omega⟩

theorem list_62 (o : Dev nD) : list o 62 = mine o 0 := Fin.ext (by
  have h : o.val < 32 := o.isLt
  show 2 * ((o.val + (31 - 62 / 2)) % 32) + 62 % 2 = 2 * o.val + 0
  omega)
theorem list_63 (o : Dev nD) : list o 63 = mine o 1 := Fin.ext (by
  have h : o.val < 32 := o.isLt
  show 2 * ((o.val + (31 - 63 / 2)) % 32) + 63 % 2 = 2 * o.val + 1
  omega)

/-! ## A part -/

/-- Row `t` of device `c`'s tokens, in the whole array. -/
def tok (c : Dev nD) (t : Fin 16) : Fin 512 := ⟨16 * c.val + t.val, by have h : c.val < 32 := c.isLt; omega⟩

/-- The devices' blocks are cut from whole arrays. -/
structure Cut (X : Cert.ReferenceIdeal.S512x512.Idx → EReal) (R : Cert.ReferenceIdeal.S512x64.Idx → EReal)
    (U : Cert.ReferenceIdeal.S64x512x1024.Idx → EReal) (D : Cert.ReferenceIdeal.S64x1024x512.Idx → EReal) : Prop where
  x : ∀ c t k, v.x c (ix2 t k) = X (ix2 (tok c t) k)
  r : ∀ c l k, v.r c (ix2 l k) = R (ix2 k (mine c l))
  u : ∀ c l k f, v.u c (ix3 l k f) = U (ix3 (mine c l) k f)
  d : ∀ c l f k, v.d c (ix3 l f k) = D (ix3 (mine c l) f k)

variable {v} {X : Cert.ReferenceIdeal.S512x512.Idx → EReal} {R : Cert.ReferenceIdeal.S512x64.Idx → EReal}
    {U : Cert.ReferenceIdeal.S64x512x1024.Idx → EReal} {D : Cert.ReferenceIdeal.S64x1024x512.Idx → EReal}

/-- A batch's tokens in slot `q` on the device `q + 1` places further are the asking device's own. -/
theorem read_own (h : Cut v X R U D) (c : Dev nD) (q : Fin 32) (t : Fin 16) (k : Fin 512) :
    xgM.view.readAt (Elt Ideal) (rect8 (batchOf q)).toLoadRect (XG v (fwd c (q.val + 1)))
      (ix3 (⟨q.val % 8, Nat.mod_lt _ (by decide)⟩ : Fin 8) t k) = X (ix2 (tok c t) k) := by
  refine (read_x v _ _ _ t k).trans ?_
  have e : 8 * (batchOf q).val + q.val % 8 = q.val := by show 8 * (q.val / 8) + q.val % 8 = q.val; omega
  show v.x (fwd (fwd c (q.val + 1)) (31 - (8 * (batchOf q).val + q.val % 8))) _ = _
  rw [e, fwd_back c _ _ (by have := q.isLt; omega), h.x]

/-- What device `o` makes of a router's row is the gate of the expert it lists there. -/
theorem gates_eq (h : Cut v X R U D) (c : Dev nD) (q : Fin 32) (t : Fin 16) (e : Fin 64) :
    ∑ k : Fin 512, xgM.view.readAt (Elt Ideal) (rect8 (batchOf q)).toLoadRect (XG v (fwd c (q.val + 1)))
        (ix3 (⟨q.val % 8, Nat.mod_lt _ (by decide)⟩ : Fin 8) t k)
      * k0_pay3 (rgM.view.readAt (Elt Ideal) rectRA.toLoadRect (RG v (fwd c (q.val + 1)))) (ix2 e k)
    = row X R (tok c t) (list (fwd c (q.val + 1)) e) := by
  refine Finset.sum_congr rfl fun k _ => ?_
  rw [read_own h, read_r, h.r]
  rfl

/-- What device `o` makes of those tokens with its two experts. -/
theorem bmade_0 (h : Cut v X R U D) (c : Dev nD) (q : Fin 32) (t : Fin 16) (k : Fin 512) (o : Dev nD) (ho : o = fwd c (q.val + 1)) :
    bmade (xgM.view.readAt (Elt Ideal) (rect8 (batchOf q)).toLoadRect (XG v o)) (w1M.view.readAt (Elt Ideal) rectU0.toLoadRect (v.u o))
      (w2M.view.readAt (Elt Ideal) rectD0.toLoadRect (v.d o)) (⟨q.val % 8, Nat.mod_lt _ (by decide)⟩ : Fin 8) t k
    = made X U D (mine o 0) (tok c t) k := by
  refine Finset.sum_congr rfl fun f _ => ?_
  rw [read_d0, h.d]
  refine congrArg (fun z => max z 0 * _) (Finset.sum_congr rfl fun p _ => ?_)
  rw [read_u0, h.u, ho, read_own h]

theorem bmade_1 (h : Cut v X R U D) (c : Dev nD) (q : Fin 32) (t : Fin 16) (k : Fin 512) (o : Dev nD) (ho : o = fwd c (q.val + 1)) :
    bmade (xgM.view.readAt (Elt Ideal) (rect8 (batchOf q)).toLoadRect (XG v o)) (w1M.view.readAt (Elt Ideal) rectU1.toLoadRect (v.u o))
      (w2M.view.readAt (Elt Ideal) rectD1.toLoadRect (v.d o)) (⟨q.val % 8, Nat.mod_lt _ (by decide)⟩ : Fin 8) t k
    = made X U D (mine o 1) (tok c t) k := by
  refine Finset.sum_congr rfl fun f _ => ?_
  rw [read_d1, h.d]
  refine congrArg (fun z => max z 0 * _) (Finset.sum_congr rfl fun p _ => ?_)
  rw [read_u1, h.u, ho, read_own h]

/-- The part a device collects in slot `q`: what the two experts of the device `q + 1` places further make of its tokens. -/
theorem part_apply (h : Cut v X R U D) (c : Dev nD) (q : Fin 32) (t : Fin 16) (k : Fin 512) {b b' : Fin 64}
    (ht : Top2 (row X R (tok c t)) b b') :
    PB v c (ix3 q t k) = ∑ l : Fin 2, made X U D (mine (fwd c (q.val + 1)) l) (tok c t) k
      * cf (row X R (tok c t)) b b' (mine (fwd c (q.val + 1)) l) := by
  rw [Fin.sum_univ_two, ← list_62, ← list_63, ← cf_map, ← cf_map]
  refine (ffn_apply _ _ _ _ (gates_eq h c q t) (ht.map (list (fwd c (q.val + 1)))) k).trans ?_
  exact congrArg₂ (fun y z => y * _ + z * _) ((bmade_0 h c q t k _ rfl).trans (by rw [list_62]))
    ((bmade_1 h c q t k _ rfl).trans (by rw [list_63]))

/-! ## The result -/

theorem sum_ring (c : Dev nD) (f : Dev nD → EReal) : ∑ q : Fin 32, f (fwd c (q.val + 1)) = ∑ o : Fin 32, f o := by
  have hi : Function.Injective fun q : Fin 32 => (fwd c (q.val + 1) : Fin 32) := fun a b hab => by
    have h : (c.val + (a.val + 1)) % 32 = (c.val + (b.val + 1)) % 32 := congrArg Fin.val hab
    exact Fin.ext (by omega)
  exact Fintype.sum_bijective _ (Finite.injective_iff_bijective.mp hi) _ _ fun _ => rfl

theorem sum_experts (f : Fin 64 → EReal) : ∑ o : Fin 32, ∑ l : Fin 2, f (mine o l) = ∑ e : Fin 64, f e := by
  rw [← Fintype.sum_prod_type' (f := fun (o : Fin 32) (l : Fin 2) => f (mine o l))]
  refine Fintype.sum_equiv (finProdFinEquiv (m := 32) (n := 2)) _ _ fun x => congrArg f (Fin.ext ?_)
  show 2 * x.1.val + x.2.val = x.2.val + 2 * x.1.val
  omega

/-- The kernel's result at a token whose two best gates stand apart. -/
theorem out_eq (h : Cut v X R U D) (c : Dev nD) (t : Fin 16) (k : Fin 512)
    (ht : Top2 (row X R (tok c t)) (best (row X R (tok c t)) 0) (best (row X R (tok c t)) 1)) :
    OUT v c (ix2 t k) = Cert.ReferenceIdeal.Val.result X R U D (ix2 (tok c t) k) := by
  rw [Cert.ReferenceIdeal.Val.result_apply U D ht, out_apply]
  simp only [part_apply h c _ t k ht]
  rw [sum_ring c (fun o => ∑ l : Fin 2, made X U D (mine o l) (tok c t) k
    * cf (row X R (tok c t)) (best (row X R (tok c t)) 0) (best (row X R (tok c t)) 1) (mine o l))]
  exact sum_experts (fun e => made X U D e (tok c t) k * cf (row X R (tok c t)) (best (row X R (tok c t)) 0) (best (row X R (tok c t)) 1) e)

end Cert.KernelIdeal.Val

end
-- ==== Proof.Whole.lean ====
/-
  The devices' blocks as cuts of the whole arrays, and the claim: the kernel's rows are the reference's.
-/
module

public import proofs.«01_k».proof.Proof.Equation
public import proofs.«01_k».proof.Proof.Launch
public import proofs.«01_k».proof.Defs

@[expose] public section

noncomputable section

namespace Cert.KernelIdeal.Val

open Cert.KernelIdeal Cert.KernelIdeal.Gen Cert.KernelIdeal.Run Cert.Two
open Idealize.ShloMosaic Idealize.ShloMosaic.TcCoe Idealize.SL.Sem

variable (m : (ℓ : Loc nD τ sig) → Buf (Elt Ideal) ℓ)

/-! ## What the body is handed -/

theorem ins_x (c : Dev nD) : (insOf m).x c = m ((c : Thread nD τ).loc main_arg0) := V_main_arg0 m c

theorem ins_r (c : Dev nD) : (insOf m).r c
    = transpose S2x512 [1, 0] (show FVec Ideal S512x2 .f32 from m ((c : Thread nD τ).loc main_arg1)) transposes_S512x2_S2x512_1_0 := rfl

theorem ins_u (c : Dev nD) : (insOf m).u c
    = truncf .bf16 (show FVec Ideal S2x512x1024 .f32 from m ((c : Thread nD τ).loc main_arg2)) bitsLt_bf16_f32 := rfl

theorem ins_d (c : Dev nD) : (insOf m).d c
    = truncf .bf16 (show FVec Ideal S2x1024x512 .f32 from m ((c : Thread nD τ).loc main_arg3)) bitsLt_bf16_f32 := rfl

/-! ## Where a block's entries lie -/

theorem block_rows {α : Type} (c : Dev nD) (X : Cert.ReferenceIdeal.S512x512.Idx → α) (t : Fin 16) (k : Fin 512) :
    Layout.block ⟨2, ![16, 512]⟩ ⟨2, ![512, 512]⟩ 0 32 c X (by decide) (ix2 t k) = X (ix2 (tok c t) k) :=
  congrArg X (funext fun a => by
    fin_cases a
    · exact Fin.ext (show c.val * 16 + t.val = 16 * c.val + t.val by omega)
    · rfl)

theorem block_cols {α : Type} (c : Dev nD) (R : Cert.ReferenceIdeal.S512x64.Idx → α) (k : Fin 512) (l : Fin 2) :
    Layout.block ⟨2, ![512, 2]⟩ ⟨2, ![512, 64]⟩ 1 32 c R (by decide) (ix2 k l) = R (ix2 k (mine c l)) :=
  congrArg R (funext fun a => by
    fin_cases a
    · rfl
    · exact Fin.ext (show c.val * 2 + l.val = 2 * c.val + l.val by omega))

theorem block_ups {α : Type} (c : Dev nD) (U : Cert.ReferenceIdeal.S64x512x1024.Idx → α) (l : Fin 2) (k : Fin 512) (f : Fin 1024) :
    Layout.block ⟨3, ![2, 512, 1024]⟩ ⟨3, ![64, 512, 1024]⟩ 0 32 c U (by decide) (ix3 l k f) = U (ix3 (mine c l) k f) :=
  congrArg U (funext fun a => by
    fin_cases a
    · exact Fin.ext (show c.val * 2 + l.val = 2 * c.val + l.val by omega)
    · rfl
    · rfl)

theorem block_downs {α : Type} (c : Dev nD) (D : Cert.ReferenceIdeal.S64x1024x512.Idx → α) (l : Fin 2) (f : Fin 1024) (k : Fin 512) :
    Layout.block ⟨3, ![2, 1024, 512]⟩ ⟨3, ![64, 1024, 512]⟩ 0 32 c D (by decide) (ix3 l f k) = D (ix3 (mine c l) f k) :=
  congrArg D (funext fun a => by
    fin_cases a
    · exact Fin.ext (show c.val * 2 + l.val = 2 * c.val + l.val by omega)
    · rfl
    · rfl)

/-- The devices' blocks, handed to the body, are cut from the reference's arrays. -/
theorem cut {X : Cert.ReferenceIdeal.S512x512.Idx → EReal} {R : Cert.ReferenceIdeal.S512x64.Idx → EReal}
    {U : Cert.ReferenceIdeal.S64x512x1024.Idx → EReal} {D : Cert.ReferenceIdeal.S64x1024x512.Idx → EReal}
    (h : ∀ c : Dev nD, m ((c : Thread nD τ).loc main_arg0) = Layout.block ⟨2, ![16, 512]⟩ ⟨2, ![512, 512]⟩ 0 32 c X
      ∧ m ((c : Thread nD τ).loc main_arg1) = Layout.block ⟨2, ![512, 2]⟩ ⟨2, ![512, 64]⟩ 1 32 c R
      ∧ m ((c : Thread nD τ).loc main_arg2) = Layout.block ⟨3, ![2, 512, 1024]⟩ ⟨3, ![64, 512, 1024]⟩ 0 32 c U
      ∧ m ((c : Thread nD τ).loc main_arg3) = Layout.block ⟨3, ![2, 1024, 512]⟩ ⟨3, ![64, 1024, 512]⟩ 0 32 c D) :
    Cut (insOf m) X R U D where
  x c t k := (congrFun ((ins_x m c).trans (h c).1) _).trans (block_rows c X t k)
  r c l k := by
    rw [ins_r, (h c).2.1, ← block_cols c R]
    generalize Layout.block ⟨2, ![512, 2]⟩ ⟨2, ![512, 64]⟩ 1 32 c R = B
    pointwise
  u c l k f := by
    rw [ins_u, (h c).2.2.1, ← block_ups c U]
    rfl
  d c l f k := by
    rw [ins_d, (h c).2.2.2, ← block_downs c D]
    rfl

/-- An index of two coordinates. -/
theorem eq_ix2 {a b : ℕ} (i : (⟨2, ![a, b]⟩ : Shape).Idx) : ∃ (p : Fin a) (q : Fin b), i = ix2 p q :=
  ⟨i 0, i 1, funext fun k => by fin_cases k <;> rfl⟩

theorem algebraic : Cert.algebraic_KernelIdeal_ReferenceIdeal_on_decided := fun m g m' g' _ h => by
  refine ⟨_, (θ_run _ _ _).mono (fun r hr c => ⟨fun i hi => ?_, (hr.1 c).2⟩) (run_main m g),
    (θ_run _ _ _).mono (fun r hr => ⟨fun i _ => congrFun (hr 0).1 i, (hr 0).2⟩) (Cert.ReferenceIdeal.Val.run_result m' g')⟩
  obtain ⟨t, k, rfl⟩ := eq_ix2 i
  rw [(hr.1 c).1, block_rows]
  rw [block_rows] at hi
  exact out_eq (cut m h) c t k (Cert.ReferenceIdeal.Val.top2_of_fn hi)

end Cert.KernelIdeal.Val

end
-- ==== Proof.lean ====
module

public import proofs.«01_k».proof.Defs
public import proofs.«01_k».proof.Proof.Exact
public import proofs.«01_k».proof.Proof.Whole
public import proofs.«01_k».proof.Proof.Gen.ReferenceIdeal.Run
public import proofs.«01_k».proof.Proof.Gen.On_decided
public import Idealize.ShloMosaic.Adequacy
public import Idealize.ShloMosaic.Init

@[expose] public section

noncomputable section

namespace Cert.Proof

open Idealize.ShloMosaic Idealize.SL.Sem Cert.Kernel

/-- The frame of the kernel as it is compiled: the run over any float values, taken at the machine's words. -/
theorem frame_kernel : Cert.quiescent_Kernel := Cert.Exact.frame_eq.mpr Cert.Exact.frameAtBits

/-- The frame of the idealized kernel: the same run, taken over the extended reals. -/
theorem frame_kernelIdeal : Cert.quiescent_KernelIdeal := fun m g _ =>
  (θ_run _ _ _).mono (fun _ h => ⟨fun c => (h.1 c).2, h.2⟩) (Cert.KernelIdeal.Run.run_main m g)

/-- The frame of the reference: its operations write no argument, and it declares no semaphore. -/
theorem frame_referenceIdeal : Cert.quiescent_ReferenceIdeal := fun m g _ =>
  (θ_run _ _ _).mono (fun r h => ⟨fun c => (h c).2, sem_eq_zero_of_no_sems (by decide) r.2⟩)
    (Cert.ReferenceIdeal.Value.run m g)

/-- The one literal that the idealization names, the mask −1e30 read as −∞, at each of its sites. -/
theorem preserves : Cert.preserves_Kernel_KernelIdeal :=
  IdealRules.named_const.statement _ _ _ _ _ rfl

/-- The kernel's result is the reference's at every token whose two best gates stand apart. -/
theorem algebraic : Cert.algebraic_KernelIdeal_ReferenceIdeal_on_decided := Cert.KernelIdeal.Val.algebraic

theorem claim : Cert.Claim := ⟨Cert.Kernel.Gen.facts, Cert.KernelIdeal.Gen.facts, Cert.ReferenceIdeal.Gen.facts, Cert.On_decided.Gen.facts,
  frame_kernel, frame_kernelIdeal, frame_referenceIdeal, preserves, algebraic⟩

end Cert.Proof

end
